-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S16x2048x512 : Shape := ⟨3, ![16, 2048, 512]⟩
abbrev S1024x8 : Shape := ⟨2, ![1024, 8]⟩
abbrev S1024x8x8 : Shape := ⟨3, ![1024, 8, 8]⟩
abbrev S_ : Shape := ⟨0, ![]⟩

class Facts : Prop where
  bcast_S_S16x2048x512 : S_.BroadcastsInDim S16x2048x512 (![] : Fin 0 → Fin S16x2048x512.rank)
  bcast_S_S1024x8 : S_.BroadcastsInDim S1024x8 (![] : Fin 0 → Fin S1024x8.rank)
  bcast_S_S1024x8x8 : S_.BroadcastsInDim S1024x8x8 (![] : Fin 0 → Fin S1024x8x8.rank)

variable [Facts]

def fn {F : FTy → Type} [FloatOps F] (main_arg0 : FVec F S16x2048x512 .f32) (main_arg1 : FVec F S1024x8 .f32) (main_arg2 : FVec F S1024x8 .f32) (main_arg3 : FVec F S1024x8x8 .f32) : IVec S16x2048x512 1 × IVec S1024x8 1 × IVec S1024x8 1 × IVec S1024x8x8 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  let main_cst_1 : FVec F S_ .f32 := constant S_ .f32 0x7F800000#32
  let main_v6 : FVec F S1024x8 .f32 := broadcastInDim S1024x8 ![] bcast_S_S1024x8 main_cst_1
  let main_v7 : IVec S1024x8 1 := cmpf .olt main_arg2 main_v6
  let main_v8 : FVec F S1024x8x8 .f32 := Host.absf main_arg3
  let main_cst_2 : FVec F S_ .f32 := constant S_ .f32 0x7F800000#32
  let main_v9 : FVec F S1024x8x8 .f32 := broadcastInDim S1024x8x8 ![] bcast_S_S1024x8x8 main_cst_2
  let main_v10 : IVec S1024x8x8 1 := cmpf .olt main_v8 main_v9
  (main_v2, main_v5, main_v7, main_v10)
-- ==== Kernel.lean ====
abbrev S16x2048x512 : Shape := ⟨3, ![16, 2048, 512]⟩
abbrev S1024x8 : Shape := ⟨2, ![1024, 8]⟩
abbrev S1024x8x8 : Shape := ⟨3, ![1024, 8, 8]⟩
abbrev S1024x64 : Shape := ⟨2, ![1024, 64]⟩
abbrev S16x64 : Shape := ⟨2, ![16, 64]⟩
abbrev S512x128 : Shape := ⟨2, ![512, 128]⟩
abbrev S64x1 : Shape := ⟨2, ![64, 1]⟩
abbrev S64x16 : Shape := ⟨2, ![64, 16]⟩
abbrev S2x2x2048x512 : Shape := ⟨4, ![2, 2, 2048, 512]⟩
abbrev S2x2x2 : Shape := ⟨3, ![2, 2, 2]⟩
abbrev S1x1x1 : Shape := ⟨3, ![1, 1, 1]⟩
abbrev S_ : Shape := ⟨0, ![]⟩
abbrev S1x1x1024x512 : Shape := ⟨4, ![1, 1, 1024, 512]⟩
abbrev S1024x512 : Shape := ⟨2, ![1024, 512]⟩
abbrev S1x1024x512 : Shape := ⟨3, ![1, 1024, 512]⟩
abbrev S512x64 : Shape := ⟨2, ![512, 64]⟩
abbrev S64 : Shape := ⟨1, ![64]⟩
abbrev S1x64 : Shape := ⟨2, ![1, 64]⟩
abbrev S512x1 : Shape := ⟨2, ![512, 1]⟩
abbrev S1x1x512x512 : Shape := ⟨4, ![1, 1, 512, 512]⟩
abbrev S512x512 : Shape := ⟨2, ![512, 512]⟩
abbrev S128x512 : Shape := ⟨2, ![128, 512]⟩
abbrev S64x512 : Shape := ⟨2, ![64, 512]⟩
abbrev S16x8x8 : Shape := ⟨3, ![16, 8, 8]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x512, .f32⟩
  | .hbm, ⟨1, _⟩ => ⟨S1024x8, .f32⟩
  | .hbm, ⟨2, _⟩ => ⟨S1024x8, .f32⟩
  | .hbm, ⟨3, _⟩ => ⟨S1024x8x8, .f32⟩
  | .hbm, ⟨4, _⟩ => ⟨S1024x8x8, .f32⟩
  | .hbm, ⟨5, _⟩ => ⟨S1024x64, .f32⟩
  | .hbm, ⟨6, _⟩ => ⟨S1024x8x8, .f32⟩
  | .hbm, ⟨7, _⟩ => ⟨S1024x64, .f32⟩
  | .hbm, ⟨8, _⟩ => ⟨S1024x64, .f32⟩
  | .hbm, ⟨9, _⟩ => ⟨S16x64, .f32⟩
  | .hbm, ⟨10, _⟩ => ⟨S16x8x8, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S16x64, .f32⟩
  | .local _ .vmem, ⟨4, _⟩ => ⟨S512x128, .f32⟩
  | .local _ .vmem, ⟨5, _⟩ => ⟨S64x1, .f32⟩
  | .local _ .vmem, ⟨6, _⟩ => ⟨S64x16, .f32⟩
  | .local _ .vmem, ⟨7, _⟩ => ⟨S2x2x2048x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c1_i32_2 : BitVec 32 := 1#32
  let v6 : BitVec 32 := Scalar.addi arg0 c1_i32_2
  let c8_i32 : BitVec 32 := 8#32
  let v7 : BitVec 1 := Scalar.cmpi .slt v6 c8_i32
  let v8 : BitVec 32 := Scalar.extui v7
  let c0_i32_3 : BitVec 32 := 0#32
  let v9 : BitVec 1 := Scalar.cmpi .ne v8 c0_i32_3
  v9

def k0_off1 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_118 : BitVec 32 := 0#32
  let c0_i32_119 : BitVec 32 := 0#32
  ![v2.toNat, 0, 0]
def k0_off2 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_117 : BitVec 32 := 0#32
  let c0_i32_120 : BitVec 32 := 0#32
  let c0_i32_121 : BitVec 32 := 0#32
  ![v2.toNat, 0, 0, 0]
def k0_off3 (i : grid0.Coords) (c0_i32_116 : BitVec 32) : Fin 3 → Nat :=
  let arg0 : BitVec 32 := BitVec.ofNat 32 (i 0).val
  let c1_i32_114 : BitVec 32 := 1#32
  let v268 : BitVec 32 := Scalar.addi arg0 c1_i32_114
  let c2_i32_115 : BitVec 32 := 2#32
  let v269 : BitVec 32 := Scalar.muli v268 c2_i32_115
  let v270 : BitVec 32 := Scalar.addi v269 c0_i32_116
  let c0_i32_122 : BitVec 32 := 0#32
  let c0_i32_123 : BitVec 32 := 0#32
  ![v270.toNat, 0, 0]
def k0_off4 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_128 : BitVec 32 := 0#32
  let c1_i32_129 : BitVec 32 := 1#32
  ![v2.toNat, 0, 1]
def k0_off5 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_127 : BitVec 32 := 0#32
  let c1024_i32_130 : BitVec 32 := 1024#32
  let c0_i32_131 : BitVec 32 := 0#32
  ![v2.toNat, 0, 1024, 0]
def k0_off6 (i : grid0.Coords) (c0_i32_126 : BitVec 32) : Fin 3 → Nat :=
  let arg0 : BitVec 32 := BitVec.ofNat 32 (i 0).val
  let c1_i32_124 : BitVec 32 := 1#32
  let v277 : BitVec 32 := Scalar.addi arg0 c1_i32_124
  let c2_i32_125 : BitVec 32 := 2#32
  let v278 : BitVec 32 := Scalar.muli v277 c2_i32_125
  let v279 : BitVec 32 := Scalar.addi v278 c0_i32_126
  let c1024_i32_132 : BitVec 32 := 1024#32
  let c0_i32_133 : BitVec 32 := 0#32
  ![v279.toNat, 1024, 0]
def k0_off7 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_138 : BitVec 32 := 1#32
  let c0_i32_139 : BitVec 32 := 0#32
  ![v2.toNat, 1, 0]
def k0_off8 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_137 : BitVec 32 := 1#32
  let c0_i32_140 : BitVec 32 := 0#32
  let c0_i32_141 : BitVec 32 := 0#32
  ![v2.toNat, 1, 0, 0]
def k0_off9 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_148 : BitVec 32 := 1#32
  let c1_i32_149 : BitVec 32 := 1#32
  ![v2.toNat, 1, 1]
def k0_off10 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_147 : BitVec 32 := 1#32
  let c1024_i32_150 : BitVec 32 := 1024#32
  let c0_i32_151 : BitVec 32 := 0#32
  ![v2.toNat, 1, 1024, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let c0_i32_10 : BitVec 32 := 0#32
  let c0_i32_11 : BitVec 32 := 0#32
  ![v0.toNat, 0, 0]
def k0_off12 (i : grid0.Coords) : Fin 4 → Nat :=
  let arg0 : BitVec 32 := BitVec.ofNat 32 (i 0).val
  let c2_i32 : BitVec 32 := 2#32
  let v0 : BitVec 32 := Scalar.remsi arg0 c2_i32
  let c0_i32_9 : BitVec 32 := 0#32
  let c0_i32_12 : BitVec 32 := 0#32
  let c0_i32_13 : BitVec 32 := 0#32
  ![v0.toNat, 0, 0, 0]
def k0_off13 (i : grid0.Coords) (c0_i32_8 : BitVec 32) : Fin 3 → Nat :=
  let arg0 : BitVec 32 := BitVec.ofNat 32 (i 0).val
  let c2_i32_7 : BitVec 32 := 2#32
  let v15 : BitVec 32 := Scalar.muli arg0 c2_i32_7
  let v16 : BitVec 32 := Scalar.addi v15 c0_i32_8
  let c0_i32_14 : BitVec 32 := 0#32
  let c0_i32_15 : BitVec 32 := 0#32
  ![v16.toNat, 0, 0]
def k0_off14 (i : grid0.Coords) : Fin 3 → Nat :=
  let arg0 : BitVec 32 := BitVec.ofNat 32 (i 0).val
  let c2_i32 : BitVec 32 := 2#32
  let v0 : BitVec 32 := Scalar.remsi arg0 c2_i32
  let c0_i32_19 : BitVec 32 := 0#32
  let c1_i32_20 : BitVec 32 := 1#32
  ![v0.toNat, 0, 1]
def k0_off15 (i : grid0.Coords) : Fin 4 → Nat :=
  let arg0 : BitVec 32 := BitVec.ofNat 32 (i 0).val
  let c2_i32 : BitVec 32 := 2#32
  let v0 : BitVec 32 := Scalar.remsi arg0 c2_i32
  let c0_i32_18 : BitVec 32 := 0#32
  let c1024_i32 : BitVec 32 := 1024#32
  let c0_i32_21 : BitVec 32 := 0#32
  ![v0.toNat, 0, 1024, 0]
def k0_off16 (i : grid0.Coords) (c0_i32_17 : BitVec 32) : Fin 3 → Nat :=
  let arg0 : BitVec 32 := BitVec.ofNat 32 (i 0).val
  let c2_i32_16 : BitVec 32 := 2#32
  let v23 : BitVec 32 := Scalar.muli arg0 c2_i32_16
  let v24 : BitVec 32 := Scalar.addi v23 c0_i32_17
  let c1024_i32_22 : BitVec 32 := 1024#32
  let c0_i32_23 : BitVec 32 := 0#32
  ![v24.toNat, 1024, 0]
def k0_off17 (i : grid0.Coords) : Fin 4 → Nat :=
  let arg0 : BitVec 32 := BitVec.ofNat 32 (i 0).val
  let c2_i32 : BitVec 32 := 2#32
  let v0 : BitVec 32 := Scalar.remsi arg0 c2_i32
  let v34 : Index := Scalar.indexCast v0
  let c0_26 : Index := 0#32
  let c0_27 : Index := 0#32
  let c0_28 : Index := 0#32
  ![v34.toNat, 0, 0, 0]
def k0_off18 (i : grid0.Coords) : Fin 4 → Nat :=
  let arg0 : BitVec 32 := BitVec.ofNat 32 (i 0).val
  let c2_i32 : BitVec 32 := 2#32
  let v0 : BitVec 32 := Scalar.remsi arg0 c2_i32
  let v57 : Index := Scalar.indexCast v0
  let c0_33 : Index := 0#32
  let c512 : Index := 512#32
  let c0_34 : Index := 0#32
  ![v57.toNat, 0, 512, 0]
def k0_off19 (i : grid0.Coords) : Fin 4 → Nat :=
  let arg0 : BitVec 32 := BitVec.ofNat 32 (i 0).val
  let c2_i32 : BitVec 32 := 2#32
  let v0 : BitVec 32 := Scalar.remsi arg0 c2_i32
  let v80 : Index := Scalar.indexCast v0
  let c0_39 : Index := 0#32
  let c1024 : Index := 1024#32
  let c0_40 : Index := 0#32
  ![v80.toNat, 0, 1024, 0]
def k0_off20 (i : grid0.Coords) : Fin 4 → Nat :=
  let arg0 : BitVec 32 := BitVec.ofNat 32 (i 0).val
  let c2_i32 : BitVec 32 := 2#32
  let v0 : BitVec 32 := Scalar.remsi arg0 c2_i32
  let v103 : Index := Scalar.indexCast v0
  let c0_45 : Index := 0#32
  let c1536 : Index := 1536#32
  let c0_46 : Index := 0#32
  ![v103.toNat, 0, 1536, 0]
def k0_off21 (i : grid0.Coords) : Fin 3 → Nat :=
  let arg0 : BitVec 32 := BitVec.ofNat 32 (i 0).val
  let c2_i32 : BitVec 32 := 2#32
  let v0 : BitVec 32 := Scalar.remsi arg0 c2_i32
  let c1_i32_61 : BitVec 32 := 1#32
  let c0_i32_62 : BitVec 32 := 0#32
  ![v0.toNat, 1, 0]
def k0_off22 (i : grid0.Coords) : Fin 4 → Nat :=
  let arg0 : BitVec 32 := BitVec.ofNat 32 (i 0).val
  let c2_i32 : BitVec 32 := 2#32
  let v0 : BitVec 32 := Scalar.remsi arg0 c2_i32
  let c1_i32_60 : BitVec 32 := 1#32
  let c0_i32_63 : BitVec 32 := 0#32
  let c0_i32_64 : BitVec 32 := 0#32
  ![v0.toNat, 1, 0, 0]
def k0_off23 (i : grid0.Coords) : Fin 3 → Nat :=
  let arg0 : BitVec 32 := BitVec.ofNat 32 (i 0).val
  let c2_i32 : BitVec 32 := 2#32
  let v0 : BitVec 32 := Scalar.remsi arg0 c2_i32
  let c1_i32_70 : BitVec 32 := 1#32
  let c1_i32_71 : BitVec 32 := 1#32
  ![v0.toNat, 1, 1]
def k0_off24 (i : grid0.Coords) : Fin 4 → Nat :=
  let arg0 : BitVec 32 := BitVec.ofNat 32 (i 0).val
  let c2_i32 : BitVec 32 := 2#32
  let v0 : BitVec 32 := Scalar.remsi arg0 c2_i32
  let c1_i32_69 : BitVec 32 := 1#32
  let c1024_i32_72 : BitVec 32 := 1024#32
  let c0_i32_73 : BitVec 32 := 0#32
  ![v0.toNat, 1, 1024, 0]
def k0_off25 (i : grid0.Coords) : Fin 4 → Nat :=
  let arg0 : BitVec 32 := BitVec.ofNat 32 (i 0).val
  let c2_i32 : BitVec 32 := 2#32
  let v0 : BitVec 32 := Scalar.remsi arg0 c2_i32
  let v159 : Index := Scalar.indexCast v0
  let c1 : Index := 1#32
  let c0_79 : Index := 0#32
  let c0_80 : Index := 0#32
  ![v159.toNat, 1, 0, 0]
def k0_off26 (i : grid0.Coords) : Fin 4 → Nat :=
  let arg0 : BitVec 32 := BitVec.ofNat 32 (i 0).val
  let c2_i32 : BitVec 32 := 2#32
  let v0 : BitVec 32 := Scalar.remsi arg0 c2_i32
  let v182 : Index := Scalar.indexCast v0
  let c1_85 : Index := 1#32
  let c512_86 : Index := 512#32
  let c0_87 : Index := 0#32
  ![v182.toNat, 1, 512, 0]
def k0_off27 (i : grid0.Coords) : Fin 4 → Nat :=
  let arg0 : BitVec 32 := BitVec.ofNat 32 (i 0).val
  let c2_i32 : BitVec 32 := 2#32
  let v0 : BitVec 32 := Scalar.remsi arg0 c2_i32
  let v205 : Index := Scalar.indexCast v0
  let c1_92 : Index := 1#32
  let c1024_93 : Index := 1024#32
  let c0_94 : Index := 0#32
  ![v205.toNat, 1, 1024, 0]
def k0_off28 (i : grid0.Coords) : Fin 4 → Nat :=
  let arg0 : BitVec 32 := BitVec.ofNat 32 (i 0).val
  let c2_i32 : BitVec 32 := 2#32
  let v0 : BitVec 32 := Scalar.remsi arg0 c2_i32
  let v228 : Index := Scalar.indexCast v0
  let c1_99 : Index := 1#32
  let c1536_100 : Index := 1536#32
  let c0_101 : Index := 0#32
  ![v228.toNat, 1, 1536, 0]
def k0_cond4 (i : grid0.Coords) : BitVec 1 :=
  let arg0 : BitVec 32 := BitVec.ofNat 32 (i 0).val
  let c7_i32 : BitVec 32 := 7#32
  let v265 : BitVec 1 := Scalar.cmpi .eq arg0 c7_i32
  let v266 : BitVec 32 := Scalar.extui v265
  let c0_i32_113 : BitVec 32 := 0#32
  let v267 : BitVec 1 := Scalar.cmpi .ne v266 c0_i32_113
  v267

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x2048x512 : Shape := ⟨3, ![16, 2048, 512]⟩
abbrev S1024x8 : Shape := ⟨2, ![1024, 8]⟩
abbrev S1024x8x8 : Shape := ⟨3, ![1024, 8, 8]⟩
abbrev S1024x8x1 : Shape := ⟨3, ![1024, 8, 1]⟩
abbrev S512x8x8 : Shape := ⟨3, ![512, 8, 8]⟩
abbrev S_ : Shape := ⟨0, ![]⟩
abbrev S8x8 : Shape := ⟨2, ![8, 8]⟩
abbrev S1x8x8 : Shape := ⟨3, ![1, 8, 8]⟩
abbrev S16x2048x8x8 : Shape := ⟨4, ![16, 2048, 8, 8]⟩
abbrev S16x8x8 : Shape := ⟨3, ![16, 8, 8]⟩
abbrev S16x1x8x8 : Shape := ⟨4, ![16, 1, 8, 8]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S1024x8, .f32⟩
  | .hbm, ⟨2, _⟩ => ⟨S1024x8, .f32⟩
  | .hbm, ⟨3, _⟩ => ⟨S1024x8x8, .f32⟩
  | .hbm, ⟨4, _⟩ => ⟨S1024x8x1, .f32⟩
  | .hbm, ⟨5, _⟩ => ⟨S1024x8, .f32⟩
  | .hbm, ⟨6, _⟩ => ⟨S1024x8x1, .f32⟩
  | .hbm, ⟨7, _⟩ => ⟨S1024x8x8, .f32⟩
  | .hbm, ⟨8, _⟩ => ⟨S1024x8x8, .f32⟩
  | .hbm, ⟨9, _⟩ => ⟨S1024x8x8, .f32⟩
  | .hbm, ⟨10, _⟩ => ⟨S1024x8x8, .f32⟩
  | .hbm, ⟨11, _⟩ => ⟨S512x8x8, .f32⟩
  | .hbm, ⟨12, _⟩ => ⟨S512x8x8, .f32⟩
  | .hbm, ⟨13, _⟩ => ⟨S512x8x8, .f32⟩
  | .hbm, ⟨14, _⟩ => ⟨S_, .f32⟩
  | .hbm, ⟨15, _⟩ => ⟨S8x8, .f32⟩
  | .hbm, ⟨16, _⟩ => ⟨S1x8x8, .f32⟩
  | .hbm, ⟨17, _⟩ => ⟨S_, .f32⟩
  | .hbm, ⟨18, _⟩ => ⟨S1x8x8, .f32⟩
  | .hbm, ⟨19, _⟩ => ⟨S1x8x8, .f32⟩
  | .hbm, ⟨20, _⟩ => ⟨S1x8x8, .f32⟩
  | .hbm, ⟨21, _⟩ => ⟨S512x8x8, .f32⟩
  | .hbm, ⟨22, _⟩ => ⟨S512x8x8, .f32⟩
  | .hbm, ⟨23, _⟩ => ⟨S16x2048x8x8, .f32⟩
  | .hbm, ⟨24, _⟩ => ⟨S_, .f32⟩
  | .hbm, ⟨25, _⟩ => ⟨S16x8x8, .f32⟩
  | .hbm, ⟨26, _⟩ => ⟨S_, .f32⟩
  | .hbm, ⟨27, _⟩ => ⟨S16x8x8, .f32⟩
  | .hbm, ⟨28, _⟩ => ⟨S16x8x8, .f32⟩
  | .hbm, ⟨29, _⟩ => ⟨S16x1x8x8, .f32⟩
  | .hbm, ⟨30, _⟩ => ⟨S16x2048x8x8, .f32⟩
  | .hbm, ⟨31, _⟩ => ⟨S16x2048x8x8, .f32⟩
  | .hbm, ⟨32, _⟩ => ⟨S16x2048x8x8, .f32⟩
  | .hbm, ⟨33, _⟩ => ⟨S_, .f32⟩
  | .hbm, ⟨34, _⟩ => ⟨S16x8x8, .f32⟩
  | .hbm, ⟨35, _⟩ => ⟨S16x1x8x8, .f32⟩
  | .hbm, ⟨36, _⟩ => ⟨S16x2048x8x8, .f32⟩
  | .hbm, ⟨37, _⟩ => ⟨S16x2048x8x8, .f32⟩
  | .hbm, ⟨38, _⟩ => ⟨S16x2048x8x8, .f32⟩
  | .hbm, ⟨39, _⟩ => ⟨S16x8x8, .f32⟩
  | .hbm, ⟨40, _⟩ => ⟨S_, .f32⟩
  | .hbm, ⟨41, _⟩ => ⟨S8x8, .f32⟩
  | .hbm, ⟨42, _⟩ => ⟨S_, .f32⟩
  | .hbm, ⟨43, _⟩ => ⟨S8x8, .f32⟩
  | .hbm, ⟨44, _⟩ => ⟨S8x8, .f32⟩
  | .hbm, ⟨45, _⟩ => ⟨S_, .i32⟩
  | .hbm, ⟨46, _⟩ => ⟨S_, .f32⟩
  | .hbm, ⟨47, _⟩ => ⟨S8x8, .f32⟩
  | .hbm, ⟨48, _⟩ => ⟨S1x8x8, .f32⟩
  | .hbm, ⟨49, _⟩ => ⟨S_, .f32⟩
  | .hbm, ⟨50, _⟩ => ⟨S1x8x8, .f32⟩
  | .hbm, ⟨51, _⟩ => ⟨S1x8x8, .f32⟩
  | .hbm, ⟨52, _⟩ => ⟨S16x8x8, .f32⟩
  | .hbm, ⟨53, _⟩ => ⟨S16x8x8, .f32⟩
  | .hbm, ⟨54, _⟩ => ⟨S16x8x8, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x8, .f32⟩
  | .hbm, ⟨60, _⟩ => ⟨S8x8, .f32⟩
  | .hbm, ⟨61, _⟩ => ⟨S8x8, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S8x8, .f32⟩
  | .hbm, ⟨67, _⟩ => ⟨S8x8, .f32⟩
  | .hbm, ⟨68, _⟩ => ⟨S8x8, .f32⟩
  | .hbm, ⟨69, _⟩ => ⟨S1x8x8, .f32⟩
  | .hbm, ⟨70, _⟩ => ⟨S16x8x8, .f32⟩
  | .hbm, ⟨71, _⟩ => ⟨S16x8x8, .f32⟩
  | .hbm, ⟨72, _⟩ => ⟨S16x8x8, .f32⟩
  | .hbm, ⟨73, _⟩ => ⟨S16x8x8, .f32⟩
  | .hbm, ⟨74, _⟩ => ⟨S1x8x8, .f32⟩
  | .hbm, ⟨75, _⟩ => ⟨S16x8x8, .f32⟩
  | .hbm, ⟨76, _⟩ => ⟨S16x8x8, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_cst_0 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_cst_1 : Ref sig .tc := ⟨.hbm, 56, rfl⟩
abbrev main_call0_call0_v8 : Ref sig .tc := ⟨.hbm, 57, rfl⟩
abbrev main_call0_call0_cst_2 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_call0_cst_3 : Ref sig .tc := ⟨.hbm, 62, rfl⟩
abbrev main_call0_call0_v12 : Ref sig .tc := ⟨.hbm, 63, rfl⟩
abbrev main_call0_call0_cst_4 : Ref sig .tc := ⟨.hbm, 64, rfl⟩
abbrev main_call0_call0_call0_v0 : Ref sig .tc := ⟨.hbm, 65, rfl⟩
abbrev main_call0_call0_call0_v1 : Ref sig .tc := ⟨.hbm, 66, rfl⟩
abbrev main_call0_v0 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩

abbrev nD : Nat := 1
abbrev τ : Topo := Topo.v7x

variable {F : FTy → Type} [FloatOps F]
-- ==== Proof.KernelIdeal.Names.lean ====
/- The kernel's memory as its proof names it: the branch conditions over the grid points, the scratch buffers, and the
   ring of two slots through which `x` is streamed. Block `b` of `x` is bags `2b` and `2b+1`; a block travels in four
   parts, one per bag `k` and half `h` of the bag's rows, part `(k, h)` into its own window of a slot on its own cell. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The branch conditions -/

/-- The kernel's first grid point: where it starts its own four copies and prepares the weights. -/
abbrev isFirst (i : grid0.Coords) : Prop :=
  (Scalar.cmpi .ne (Scalar.extui (Scalar.cmpi .eq (BitVec.ofNat 32 (i 0).val) 0#32)) 0#32) = 1#1
/-- A grid point with a successor: where the next block's four copies are started. -/
abbrev hasNext (i : grid0.Coords) : Prop := k0_cond2 i = 1#1
/-- The last grid point: where the result is written. -/
abbrev isLast (i : grid0.Coords) : Prop := k0_cond4 i = 1#1

theorem isFirst_iff : ∀ t : Fin grid0.N, isFirst (grid0.coords t) ↔ t.val = 0 := by decide +kernel
theorem hasNext_iff : ∀ t : Fin grid0.N, hasNext (grid0.coords t) ↔ t.val < 7 := by decide +kernel
theorem isLast_iff : ∀ t : Fin grid0.N, isLast (grid0.coords t) ↔ t.val = 7 := by decide +kernel

/-! ## The buffers -/

/-- The weights `w`, the norms `b`, the bag means `u` and the two-slot buffer of `x`. -/
abbrev scW : Memref sig .tc .vmem S512x128 .f32 := Memref.whole cc0_scratch0
abbrev scB : Memref sig .tc .vmem S64x1 .f32 := Memref.whole cc0_scratch1
abbrev scU : Memref sig .tc .vmem S64x16 .f32 := Memref.whole cc0_scratch2
abbrev scX : Memref sig .tc .vmem S2x2x2048x512 .f32 := Memref.whole cc0_scratch3
/-- `x` itself, left in HBM. -/
abbrev hbX : Memref sig .tc .hbm S16x2048x512 .f32 := Memref.whole main_arg0

/-- The contents of memref `M`'s buffer on core `c`. -/
abbrev HbBuf (c : Dev nD) {sp : Space} {S : Shape} {e : EltTy} (M : Memref sig .tc sp S e) : Type := Buf (Elt F) (M.view.loc (c : Thread nD τ))
/-- Memref `M`'s buffer held whole at contents `f`. -/
abbrev hbPt (c : Dev nD) {sp : Space} {S : Shape} {e : EltTy} (M : Memref sig .tc sp S e) (f : HbBuf (F := F) c M) : sProp 𝕄 :=
  M.view.loc (c : Thread nD τ) ↦{fullShare} f

/-- The kernel's own eight cells. -/
abbrev osem : Fin 8 → SemLoc sig := fun j =>
  (![SemLoc.dma 4, SemLoc.dma 5, SemLoc.dma 6, SemLoc.dma 7, SemLoc.dma 8, SemLoc.dma 9, SemLoc.dma 10, SemLoc.dma 11] : Fin 8 → SemLoc sig) j
theorem ownSemFacts : Pipeline.OwnSemFacts spec0 osem := by decide
/-- The cells at zero, listed. -/
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) := by
  rw [Pipeline.ownSems0_eq_of_list c osem [0, 1, 2, 3, 4, 5, 6, 7] (by decide) (by decide)]; rfl

/-- The one array the kernel copies from by itself. -/
def H0 : Finset (Ref sig .tc) := {main_arg0}
theorem H0_sub : H0 ⊆ Pipeline.restRefs sig spec0 := by decide

/-! ## The ring's parts -/

instance : NeZero grid0.N := ⟨by rw [N_0]; decide⟩

theorem inb_win (s k h : Fin 2) : ∀ a, (![s.val, k.val, 1024 * h.val, 0] : Fin 4 → Nat) a + S1x1x1024x512.size a ≤ S2x2x2048x512.size a := by
  have := s.isLt; have := k.isLt; have := h.isLt; intro a; fin_cases a <;> simp <;> omega
theorem inb_src (b : Fin 8) (k h : Fin 2) : ∀ a, (![2 * b.val + k.val, 1024 * h.val, 0] : Fin 3 → Nat) a + S1x1024x512.size a ≤ S16x2048x512.size a := by
  have := b.isLt; have := k.isLt; have := h.isLt; intro a; fin_cases a <;> simp <;> omega
theorem inb_cell (s k h : Fin 2) : ∀ a, (![s.val, k.val, h.val] : Fin 3 → Nat) a + S1x1x1.size a ≤ S2x2x2.size a := by
  have := s.isLt; have := k.isLt; have := h.isLt; intro a; fin_cases a <;> simp <;> omega

/-- Window `(k, h)` of slot `s`: half `h` of the rows of bag `k`. -/
def win (s k h : Fin 2) : Memref sig .tc .vmem S1024x512 .f32 :=
  (scX.slice (Rect.unit (s := S2x2x2048x512) ![s.val, k.val, 1024 * h.val, 0] S1x1x1024x512.size (inb_win s k h)) (fun _ => rfl)).squeeze S1024x512 squeezes_S1x1x1024x512_S1024x512
/-- Part `(k, h)` of block `b`: half `h` of the rows of bag `2b + k` of `x`. -/
def src (b : Fin 8) (k h : Fin 2) : Memref sig .tc .hbm S1024x512 .f32 :=
  (hbX.slice (Rect.unit (s := S16x2048x512) ![2 * b.val + k.val, 1024 * h.val, 0] S1x1024x512.size (inb_src b k h)) (fun _ => rfl)).squeeze S1024x512 squeezes_S1x1024x512_S1024x512
/-- The cell of window `(k, h)` of slot `s`. -/
def cellA (s k h : Fin 2) : DmaSems sig S_ :=
  (cc0_scratch4.slice (Rect.unit (s := S2x2x2) ![s.val, k.val, h.val] S1x1x1.size (inb_cell s k h))).squeeze S_ squeezes_S1x1x1_S_
abbrev cellR (s k h : Fin 2) : SemLoc sig := SemLoc.dma (cellA s k h).sem

theorem cellR_000 : cellR 0 0 0 = SemLoc.dma 4 := by decide
theorem cellR_001 : cellR 0 0 1 = SemLoc.dma 5 := by decide
theorem cellR_010 : cellR 0 1 0 = SemLoc.dma 6 := by decide
theorem cellR_011 : cellR 0 1 1 = SemLoc.dma 7 := by decide
theorem cellR_100 : cellR 1 0 0 = SemLoc.dma 8 := by decide
theorem cellR_101 : cellR 1 0 1 = SemLoc.dma 9 := by decide
theorem cellR_110 : cellR 1 1 0 = SemLoc.dma 10 := by decide
theorem cellR_111 : cellR 1 1 1 = SemLoc.dma 11 := by decide

section Parts
variable (c : Dev nD) (X : HbBuf (F := F) c hbX)

/-- The left half of a share for index 0, the right half for index 1. -/
def half (i : Fin 2) (q : PosShare TreeShare) : PosShare TreeShare := if i.val = 0 then q.left else q.right
/-- The share of `x` that part `(k, h)` of slot `s` borrows from: one eighth of it. -/
def qs (s k h : Fin 2) : PosShare TreeShare := half h (half k (half s fullShare))

/-- Window `(k, h)` of slot `s` held at contents `f`; its cell at zero. -/
abbrev winP (s k h : Fin 2) (f : HbBuf (F := F) c (win s k h)) : sProp 𝕄 :=
  (win s k h).view.loc (c : Thread nD τ) ↦[(win s k h).view.set]{fullShare} f
abbrev cellP (s k h : Fin 2) : sProp 𝕄 := semVal ((c : Thread nD τ), cellR s k h) 0
/-- Part `(k, h)` of block `b` of `x`, at the share of slot `s`; the rest of `x` at that share; `x` whole at it. -/
abbrev srcP (s k h : Fin 2) (b : Fin 8) : sProp 𝕄 :=
  (src b k h).view.loc (c : Thread nD τ) ↦[(src b k h).view.set]{qs s k h} X
def restP (s k h : Fin 2) (b : Fin 8) : sProp 𝕄 :=
  ((c : Thread nD τ).loc main_arg0) ↦[Finset.univ \ (src b k h).view.set]{qs s k h} X
abbrev wholeP (s k h : Fin 2) : sProp 𝕄 := ((c : Thread nD τ).loc main_arg0) ↦[Finset.univ]{qs s k h} X
/-- A window's contents once part `(k, h)` of block `b` has landed in it over `f`. -/
abbrev landed (s k h : Fin 2) (b : Fin 8) (f : HbBuf (F := F) c (win s k h)) : HbBuf (F := F) c (win s k h) :=
  (win s k h).view.writes (Elt F) f [⟨Rect.whole S1024x512, ReadAs.same.apply ((src b k h).view.read (Elt F) X)⟩]
/-- Part `(k, h)` of block `b` in flight into slot `s`: it delivers the window with the part landed, and the part of
    `x` it borrowed. -/
abbrev flightP (s k h : Fin 2) (b : Fin 8) (f : HbBuf (F := F) c (win s k h)) : sProp 𝕄 :=
  Transfers.Flight countersEmb (c : Thread nD τ) (cellR s k h) default ((win s k h).view.amount (cellR s k h))
    iprop(winP c s k h (landed c X s k h b f) ∗ srcP c X s k h b)

/-- A part at rest: its cell at zero, its window at anything, its share of `x` whole. -/
def freeP (s k h : Fin 2) : sProp 𝕄 := iprop(cellP (F := F) c s k h ∗ (∃ f, winP c s k h f) ∗ wholeP c X s k h)
/-- A part in flight with block `b`, and the rest of its share of `x`. -/
def busyP (s k h : Fin 2) (b : Fin 8) : sProp 𝕄 := iprop((∃ f, flightP c X s k h b f) ∗ restP c X s k h b)

/-- A share of `x` whole is one part's elements and the rest. -/
theorem src_split (s k h : Fin 2) (b : Fin 8) : wholeP (F := F) c X s k h ⊣⊢ iprop(srcP c X s k h b ∗ restP c X s k h b) := by
  unfold restP; exact pointsTo_split_subset (Finset.subset_univ _)

/-- A slot at rest: its four parts at rest. -/
def freeSlot (s : Fin 2) : sProp 𝕄 := iprop(freeP c X s 0 0 ∗ freeP c X s 0 1 ∗ freeP c X s 1 0 ∗ freeP c X s 1 1)
/-- A slot in flight with block `b`: its four parts in flight. -/
def busySlot (s : Fin 2) (b : Fin 8) : sProp 𝕄 := iprop(busyP c X s 0 0 b ∗ busyP c X s 0 1 b ∗ busyP c X s 1 0 b ∗ busyP c X s 1 1 b)

end Parts

/-! ## The names of the body's operands -/

section Canon
omit [FloatOps F]

theorem win_eq {off : Fin 4 → Nat} (s k h : Fin 2) (e : off = ![s.val, k.val, 1024 * h.val, 0])
    (i : ∀ a, off a + S1x1x1024x512.size a ≤ S2x2x2048x512.size a) :
    (scX.slice (Rect.unit (s := S2x2x2048x512) off S1x1x1024x512.size i) (fun _ => rfl)).squeeze S1024x512 squeezes_S1x1x1024x512_S1024x512 = win s k h := by
  subst e; rfl
theorem src_eq {off : Fin 3 → Nat} (b : Fin 8) (k h : Fin 2) (e : off = ![2 * b.val + k.val, 1024 * h.val, 0])
    (i : ∀ a, off a + S1x1024x512.size a ≤ S16x2048x512.size a) :
    (hbX.slice (Rect.unit (s := S16x2048x512) off S1x1024x512.size i) (fun _ => rfl)).squeeze S1024x512 squeezes_S1x1024x512_S1024x512 = src b k h := by
  subst e; rfl
theorem cell_eq {off : Fin 3 → Nat} (s k h : Fin 2) (e : off = ![s.val, k.val, h.val])
    (i : ∀ a, off a + S1x1x1.size a ≤ S2x2x2.size a) :
    (cc0_scratch4.slice (Rect.unit (s := S2x2x2) off S1x1x1.size i)).squeeze S_ squeezes_S1x1x1_S_ = cellA s k h := by
  subst e; rfl

/-! ### The copies the first point starts for itself -/

set_option synthInstance.maxSize 4096 in
theorem off_cA00 : ∀ t : Fin grid0.N, isFirst (grid0.coords t) → (![0, 0, 0] : Fin 3 → Nat) = ![(Ring.sl 2 t.val).val, ((0 : Fin 2)).val, ((0 : Fin 2)).val] := by decide +kernel
@[sl_canon] theorem name_cA00 (t : Fin grid0.N) (hc : isFirst (grid0.coords t)) :
    (cc0_scratch4.slice (Rect.unit (s := S2x2x2) ![0, 0, 0] S1x1x1.size inb_S2x2x2_S1x1x1_0_0_0)).squeeze S_ squeezes_S1x1x1_S_ = cellA (Ring.sl 2 t.val) 0 0 :=
  cell_eq (Ring.sl 2 t.val) 0 0 (off_cA00 t hc) _
@[sl_canon] theorem name_cA00' (t : Fin grid0.N) (hc : isFirst (grid0.coords t)) :
    (cc0_scratch4.slice (Rect.unit (s := S2x2x2) ![0, 0, 0] ![1, 1, 1] inb_S2x2x2_S1x1x1_0_0_0)).squeeze S_ squeezes_S1x1x1_S_ = cellA (Ring.sl 2 t.val) 0 0 := name_cA00 t hc
set_option synthInstance.maxSize 4096 in
theorem off_wA00 : ∀ t : Fin grid0.N, isFirst (grid0.coords t) → (![0, 0, 0, 0] : Fin 4 → Nat) = ![(Ring.sl 2 t.val).val, ((0 : Fin 2)).val, 1024 * ((0 : Fin 2)).val, 0] := by decide +kernel
@[sl_canon] theorem name_wA00 (t : Fin grid0.N) (hc : isFirst (grid0.coords t)) :
    (scX.slice (Rect.unit (s := S2x2x2048x512) ![0, 0, 0, 0] S1x1x1024x512.size inb_S2x2x2048x512_S1x1x1024x512_0_0_0_0) (fun _ => rfl)).squeeze S1024x512 squeezes_S1x1x1024x512_S1024x512 = win (Ring.sl 2 t.val) 0 0 :=
  win_eq (Ring.sl 2 t.val) 0 0 (off_wA00 t hc) _
@[sl_canon] theorem name_wA00' (t : Fin grid0.N) (hc : isFirst (grid0.coords t)) :
    (scX.slice (Rect.unit (s := S2x2x2048x512) ![0, 0, 0, 0] ![1, 1, 1024, 512] inb_S2x2x2048x512_S1x1x1024x512_0_0_0_0) (fun _ => rfl)).squeeze S1024x512 squeezes_S1x1x1024x512_S1024x512 = win (Ring.sl 2 t.val) 0 0 := name_wA00 t hc
set_option synthInstance.maxSize 4096 in
theorem off_sA00 : ∀ t : Fin grid0.N, isFirst (grid0.coords t) → (![0, 0, 0] : Fin 3 → Nat) = ![2 * (Ring.bk 8 t.val).val + ((0 : Fin 2)).val, 1024 * ((0 : Fin 2)).val, 0] := by decide +kernel
@[sl_canon] theorem name_sA00 (t : Fin grid0.N) (hc : isFirst (grid0.coords t)) :
    (hbX.slice (Rect.unit (s := S16x2048x512) ![0, 0, 0] S1x1024x512.size inb_S16x2048x512_S1x1024x512_0_0_0) (fun _ => rfl)).squeeze S1024x512 squeezes_S1x1024x512_S1024x512 = src (Ring.bk 8 t.val) 0 0 :=
  src_eq (Ring.bk 8 t.val) 0 0 (off_sA00 t hc) _
@[sl_canon] theorem name_sA00' (t : Fin grid0.N) (hc : isFirst (grid0.coords t)) :
    (hbX.slice (Rect.unit (s := S16x2048x512) ![0, 0, 0] ![1, 1024, 512] inb_S16x2048x512_S1x1024x512_0_0_0) (fun _ => rfl)).squeeze S1024x512 squeezes_S1x1024x512_S1024x512 = src (Ring.bk 8 t.val) 0 0 := name_sA00 t hc
set_option synthInstance.maxSize 4096 in
theorem off_cA01 : ∀ t : Fin grid0.N, isFirst (grid0.coords t) → (![0, 0, 1] : Fin 3 → Nat) = ![(Ring.sl 2 t.val).val, ((0 : Fin 2)).val, ((1 : Fin 2)).val] := by decide +kernel
@[sl_canon] theorem name_cA01 (t : Fin grid0.N) (hc : isFirst (grid0.coords t)) :
    (cc0_scratch4.slice (Rect.unit (s := S2x2x2) ![0, 0, 1] S1x1x1.size inb_S2x2x2_S1x1x1_0_0_1)).squeeze S_ squeezes_S1x1x1_S_ = cellA (Ring.sl 2 t.val) 0 1 :=
  cell_eq (Ring.sl 2 t.val) 0 1 (off_cA01 t hc) _
@[sl_canon] theorem name_cA01' (t : Fin grid0.N) (hc : isFirst (grid0.coords t)) :
    (cc0_scratch4.slice (Rect.unit (s := S2x2x2) ![0, 0, 1] ![1, 1, 1] inb_S2x2x2_S1x1x1_0_0_1)).squeeze S_ squeezes_S1x1x1_S_ = cellA (Ring.sl 2 t.val) 0 1 := name_cA01 t hc
set_option synthInstance.maxSize 4096 in
theorem off_wA01 : ∀ t : Fin grid0.N, isFirst (grid0.coords t) → (![0, 0, 1024, 0] : Fin 4 → Nat) = ![(Ring.sl 2 t.val).val, ((0 : Fin 2)).val, 1024 * ((1 : Fin 2)).val, 0] := by decide +kernel
@[sl_canon] theorem name_wA01 (t : Fin grid0.N) (hc : isFirst (grid0.coords t)) :
    (scX.slice (Rect.unit (s := S2x2x2048x512) ![0, 0, 1024, 0] S1x1x1024x512.size inb_S2x2x2048x512_S1x1x1024x512_0_0_1024_0) (fun _ => rfl)).squeeze S1024x512 squeezes_S1x1x1024x512_S1024x512 = win (Ring.sl 2 t.val) 0 1 :=
  win_eq (Ring.sl 2 t.val) 0 1 (off_wA01 t hc) _
@[sl_canon] theorem name_wA01' (t : Fin grid0.N) (hc : isFirst (grid0.coords t)) :
    (scX.slice (Rect.unit (s := S2x2x2048x512) ![0, 0, 1024, 0] ![1, 1, 1024, 512] inb_S2x2x2048x512_S1x1x1024x512_0_0_1024_0) (fun _ => rfl)).squeeze S1024x512 squeezes_S1x1x1024x512_S1024x512 = win (Ring.sl 2 t.val) 0 1 := name_wA01 t hc
set_option synthInstance.maxSize 4096 in
theorem off_sA01 : ∀ t : Fin grid0.N, isFirst (grid0.coords t) → (![0, 1024, 0] : Fin 3 → Nat) = ![2 * (Ring.bk 8 t.val).val + ((0 : Fin 2)).val, 1024 * ((1 : Fin 2)).val, 0] := by decide +kernel
@[sl_canon] theorem name_sA01 (t : Fin grid0.N) (hc : isFirst (grid0.coords t)) :
    (hbX.slice (Rect.unit (s := S16x2048x512) ![0, 1024, 0] S1x1024x512.size inb_S16x2048x512_S1x1024x512_0_1024_0) (fun _ => rfl)).squeeze S1024x512 squeezes_S1x1024x512_S1024x512 = src (Ring.bk 8 t.val) 0 1 :=
  src_eq (Ring.bk 8 t.val) 0 1 (off_sA01 t hc) _
@[sl_canon] theorem name_sA01' (t : Fin grid0.N) (hc : isFirst (grid0.coords t)) :
    (hbX.slice (Rect.unit (s := S16x2048x512) ![0, 1024, 0] ![1, 1024, 512] inb_S16x2048x512_S1x1024x512_0_1024_0) (fun _ => rfl)).squeeze S1024x512 squeezes_S1x1024x512_S1024x512 = src (Ring.bk 8 t.val) 0 1 := name_sA01 t hc
set_option synthInstance.maxSize 4096 in
theorem off_cA10 : ∀ t : Fin grid0.N, isFirst (grid0.coords t) → (![0, 1, 0] : Fin 3 → Nat) = ![(Ring.sl 2 t.val).val, ((1 : Fin 2)).val, ((0 : Fin 2)).val] := by decide +kernel
@[sl_canon] theorem name_cA10 (t : Fin grid0.N) (hc : isFirst (grid0.coords t)) :
    (cc0_scratch4.slice (Rect.unit (s := S2x2x2) ![0, 1, 0] S1x1x1.size inb_S2x2x2_S1x1x1_0_1_0)).squeeze S_ squeezes_S1x1x1_S_ = cellA (Ring.sl 2 t.val) 1 0 :=
  cell_eq (Ring.sl 2 t.val) 1 0 (off_cA10 t hc) _
@[sl_canon] theorem name_cA10' (t : Fin grid0.N) (hc : isFirst (grid0.coords t)) :
    (cc0_scratch4.slice (Rect.unit (s := S2x2x2) ![0, 1, 0] ![1, 1, 1] inb_S2x2x2_S1x1x1_0_1_0)).squeeze S_ squeezes_S1x1x1_S_ = cellA (Ring.sl 2 t.val) 1 0 := name_cA10 t hc
set_option synthInstance.maxSize 4096 in
theorem off_wA10 : ∀ t : Fin grid0.N, isFirst (grid0.coords t) → (![0, 1, 0, 0] : Fin 4 → Nat) = ![(Ring.sl 2 t.val).val, ((1 : Fin 2)).val, 1024 * ((0 : Fin 2)).val, 0] := by decide +kernel
@[sl_canon] theorem name_wA10 (t : Fin grid0.N) (hc : isFirst (grid0.coords t)) :
    (scX.slice (Rect.unit (s := S2x2x2048x512) ![0, 1, 0, 0] S1x1x1024x512.size inb_S2x2x2048x512_S1x1x1024x512_0_1_0_0) (fun _ => rfl)).squeeze S1024x512 squeezes_S1x1x1024x512_S1024x512 = win (Ring.sl 2 t.val) 1 0 :=
  win_eq (Ring.sl 2 t.val) 1 0 (off_wA10 t hc) _
@[sl_canon] theorem name_wA10' (t : Fin grid0.N) (hc : isFirst (grid0.coords t)) :
    (scX.slice (Rect.unit (s := S2x2x2048x512) ![0, 1, 0, 0] ![1, 1, 1024, 512] inb_S2x2x2048x512_S1x1x1024x512_0_1_0_0) (fun _ => rfl)).squeeze S1024x512 squeezes_S1x1x1024x512_S1024x512 = win (Ring.sl 2 t.val) 1 0 := name_wA10 t hc
set_option synthInstance.maxSize 4096 in
theorem off_sA10 : ∀ t : Fin grid0.N, isFirst (grid0.coords t) → (![1, 0, 0] : Fin 3 → Nat) = ![2 * (Ring.bk 8 t.val).val + ((1 : Fin 2)).val, 1024 * ((0 : Fin 2)).val, 0] := by decide +kernel
@[sl_canon] theorem name_sA10 (t : Fin grid0.N) (hc : isFirst (grid0.coords t)) :
    (hbX.slice (Rect.unit (s := S16x2048x512) ![1, 0, 0] S1x1024x512.size inb_S16x2048x512_S1x1024x512_1_0_0) (fun _ => rfl)).squeeze S1024x512 squeezes_S1x1024x512_S1024x512 = src (Ring.bk 8 t.val) 1 0 :=
  src_eq (Ring.bk 8 t.val) 1 0 (off_sA10 t hc) _
@[sl_canon] theorem name_sA10' (t : Fin grid0.N) (hc : isFirst (grid0.coords t)) :
    (hbX.slice (Rect.unit (s := S16x2048x512) ![1, 0, 0] ![1, 1024, 512] inb_S16x2048x512_S1x1024x512_1_0_0) (fun _ => rfl)).squeeze S1024x512 squeezes_S1x1024x512_S1024x512 = src (Ring.bk 8 t.val) 1 0 := name_sA10 t hc
set_option synthInstance.maxSize 4096 in
theorem off_cA11 : ∀ t : Fin grid0.N, isFirst (grid0.coords t) → (![0, 1, 1] : Fin 3 → Nat) = ![(Ring.sl 2 t.val).val, ((1 : Fin 2)).val, ((1 : Fin 2)).val] := by decide +kernel
@[sl_canon] theorem name_cA11 (t : Fin grid0.N) (hc : isFirst (grid0.coords t)) :
    (cc0_scratch4.slice (Rect.unit (s := S2x2x2) ![0, 1, 1] S1x1x1.size inb_S2x2x2_S1x1x1_0_1_1)).squeeze S_ squeezes_S1x1x1_S_ = cellA (Ring.sl 2 t.val) 1 1 :=
  cell_eq (Ring.sl 2 t.val) 1 1 (off_cA11 t hc) _
@[sl_canon] theorem name_cA11' (t : Fin grid0.N) (hc : isFirst (grid0.coords t)) :
    (cc0_scratch4.slice (Rect.unit (s := S2x2x2) ![0, 1, 1] ![1, 1, 1] inb_S2x2x2_S1x1x1_0_1_1)).squeeze S_ squeezes_S1x1x1_S_ = cellA (Ring.sl 2 t.val) 1 1 := name_cA11 t hc
set_option synthInstance.maxSize 4096 in
theorem off_wA11 : ∀ t : Fin grid0.N, isFirst (grid0.coords t) → (![0, 1, 1024, 0] : Fin 4 → Nat) = ![(Ring.sl 2 t.val).val, ((1 : Fin 2)).val, 1024 * ((1 : Fin 2)).val, 0] := by decide +kernel
@[sl_canon] theorem name_wA11 (t : Fin grid0.N) (hc : isFirst (grid0.coords t)) :
    (scX.slice (Rect.unit (s := S2x2x2048x512) ![0, 1, 1024, 0] S1x1x1024x512.size inb_S2x2x2048x512_S1x1x1024x512_0_1_1024_0) (fun _ => rfl)).squeeze S1024x512 squeezes_S1x1x1024x512_S1024x512 = win (Ring.sl 2 t.val) 1 1 :=
  win_eq (Ring.sl 2 t.val) 1 1 (off_wA11 t hc) _
@[sl_canon] theorem name_wA11' (t : Fin grid0.N) (hc : isFirst (grid0.coords t)) :
    (scX.slice (Rect.unit (s := S2x2x2048x512) ![0, 1, 1024, 0] ![1, 1, 1024, 512] inb_S2x2x2048x512_S1x1x1024x512_0_1_1024_0) (fun _ => rfl)).squeeze S1024x512 squeezes_S1x1x1024x512_S1024x512 = win (Ring.sl 2 t.val) 1 1 := name_wA11 t hc
set_option synthInstance.maxSize 4096 in
theorem off_sA11 : ∀ t : Fin grid0.N, isFirst (grid0.coords t) → (![1, 1024, 0] : Fin 3 → Nat) = ![2 * (Ring.bk 8 t.val).val + ((1 : Fin 2)).val, 1024 * ((1 : Fin 2)).val, 0] := by decide +kernel
@[sl_canon] theorem name_sA11 (t : Fin grid0.N) (hc : isFirst (grid0.coords t)) :
    (hbX.slice (Rect.unit (s := S16x2048x512) ![1, 1024, 0] S1x1024x512.size inb_S16x2048x512_S1x1024x512_1_1024_0) (fun _ => rfl)).squeeze S1024x512 squeezes_S1x1024x512_S1024x512 = src (Ring.bk 8 t.val) 1 1 :=
  src_eq (Ring.bk 8 t.val) 1 1 (off_sA11 t hc) _
@[sl_canon] theorem name_sA11' (t : Fin grid0.N) (hc : isFirst (grid0.coords t)) :
    (hbX.slice (Rect.unit (s := S16x2048x512) ![1, 1024, 0] ![1, 1024, 512] inb_S16x2048x512_S1x1024x512_1_1024_0) (fun _ => rfl)).squeeze S1024x512 squeezes_S1x1024x512_S1024x512 = src (Ring.bk 8 t.val) 1 1 := name_sA11 t hc
/-! ### The copies started for the next block -/

set_option synthInstance.maxSize 4096 in
theorem off_cN00 : ∀ t : Fin grid0.N, hasNext (grid0.coords t) → (k0_off1 (grid0.coords t)) = ![(Ring.sl 2 (t.val + 1)).val, ((0 : Fin 2)).val, ((0 : Fin 2)).val] := by decide +kernel
@[sl_canon] theorem name_cN00 (t : Fin grid0.N) (hc : hasNext (grid0.coords t)) :
    (cc0_scratch4.slice (Rect.unit (s := S2x2x2) (k0_off1 (grid0.coords t)) S1x1x1.size (k0_off1_inb (grid0.coords t) hc))).squeeze S_ squeezes_S1x1x1_S_ = cellA (Ring.sl 2 (t.val + 1)) 0 0 :=
  cell_eq (Ring.sl 2 (t.val + 1)) 0 0 (off_cN00 t hc) _
@[sl_canon] theorem name_cN00' (t : Fin grid0.N) (hc : hasNext (grid0.coords t)) :
    (cc0_scratch4.slice (Rect.unit (s := S2x2x2) (k0_off1 (grid0.coords t)) ![1, 1, 1] (k0_off1_inb (grid0.coords t) hc))).squeeze S_ squeezes_S1x1x1_S_ = cellA (Ring.sl 2 (t.val + 1)) 0 0 := name_cN00 t hc
set_option synthInstance.maxSize 4096 in
theorem off_wN00 : ∀ t : Fin grid0.N, hasNext (grid0.coords t) → (k0_off2 (grid0.coords t)) = ![(Ring.sl 2 (t.val + 1)).val, ((0 : Fin 2)).val, 1024 * ((0 : Fin 2)).val, 0] := by decide +kernel
@[sl_canon] theorem name_wN00 (t : Fin grid0.N) (hc : hasNext (grid0.coords t)) :
    (scX.slice (Rect.unit (s := S2x2x2048x512) (k0_off2 (grid0.coords t)) S1x1x1024x512.size (k0_off2_inb (grid0.coords t) hc)) (fun _ => rfl)).squeeze S1024x512 squeezes_S1x1x1024x512_S1024x512 = win (Ring.sl 2 (t.val + 1)) 0 0 :=
  win_eq (Ring.sl 2 (t.val + 1)) 0 0 (off_wN00 t hc) _
@[sl_canon] theorem name_wN00' (t : Fin grid0.N) (hc : hasNext (grid0.coords t)) :
    (scX.slice (Rect.unit (s := S2x2x2048x512) (k0_off2 (grid0.coords t)) ![1, 1, 1024, 512] (k0_off2_inb (grid0.coords t) hc)) (fun _ => rfl)).squeeze S1024x512 squeezes_S1x1x1024x512_S1024x512 = win (Ring.sl 2 (t.val + 1)) 0 0 := name_wN00 t hc
set_option synthInstance.maxSize 4096 in
theorem off_sN00 : ∀ t : Fin grid0.N, hasNext (grid0.coords t) → (k0_off3 (grid0.coords t) 0#32) = ![2 * (Ring.bk 8 (t.val + 1)).val + ((0 : Fin 2)).val, 1024 * ((0 : Fin 2)).val, 0] := by decide +kernel
@[sl_canon] theorem name_sN00 (t : Fin grid0.N) (hc : hasNext (grid0.coords t)) :
    (hbX.slice (Rect.unit (s := S16x2048x512) (k0_off3 (grid0.coords t) 0#32) S1x1024x512.size (k0_off3_inb (grid0.coords t) hc 0)) (fun _ => rfl)).squeeze S1024x512 squeezes_S1x1024x512_S1024x512 = src (Ring.bk 8 (t.val + 1)) 0 0 :=
  src_eq (Ring.bk 8 (t.val + 1)) 0 0 (off_sN00 t hc) _
@[sl_canon] theorem name_sN00' (t : Fin grid0.N) (hc : hasNext (grid0.coords t)) :
    (hbX.slice (Rect.unit (s := S16x2048x512) (k0_off3 (grid0.coords t) 0#32) ![1, 1024, 512] (k0_off3_inb (grid0.coords t) hc 0)) (fun _ => rfl)).squeeze S1024x512 squeezes_S1x1024x512_S1024x512 = src (Ring.bk 8 (t.val + 1)) 0 0 := name_sN00 t hc
set_option synthInstance.maxSize 4096 in
theorem off_cN01 : ∀ t : Fin grid0.N, hasNext (grid0.coords t) → (k0_off4 (grid0.coords t)) = ![(Ring.sl 2 (t.val + 1)).val, ((0 : Fin 2)).val, ((1 : Fin 2)).val] := by decide +kernel
@[sl_canon] theorem name_cN01 (t : Fin grid0.N) (hc : hasNext (grid0.coords t)) :
    (cc0_scratch4.slice (Rect.unit (s := S2x2x2) (k0_off4 (grid0.coords t)) S1x1x1.size (k0_off4_inb (grid0.coords t) hc))).squeeze S_ squeezes_S1x1x1_S_ = cellA (Ring.sl 2 (t.val + 1)) 0 1 :=
  cell_eq (Ring.sl 2 (t.val + 1)) 0 1 (off_cN01 t hc) _
@[sl_canon] theorem name_cN01' (t : Fin grid0.N) (hc : hasNext (grid0.coords t)) :
    (cc0_scratch4.slice (Rect.unit (s := S2x2x2) (k0_off4 (grid0.coords t)) ![1, 1, 1] (k0_off4_inb (grid0.coords t) hc))).squeeze S_ squeezes_S1x1x1_S_ = cellA (Ring.sl 2 (t.val + 1)) 0 1 := name_cN01 t hc
set_option synthInstance.maxSize 4096 in
theorem off_wN01 : ∀ t : Fin grid0.N, hasNext (grid0.coords t) → (k0_off5 (grid0.coords t)) = ![(Ring.sl 2 (t.val + 1)).val, ((0 : Fin 2)).val, 1024 * ((1 : Fin 2)).val, 0] := by decide +kernel
@[sl_canon] theorem name_wN01 (t : Fin grid0.N) (hc : hasNext (grid0.coords t)) :
    (scX.slice (Rect.unit (s := S2x2x2048x512) (k0_off5 (grid0.coords t)) S1x1x1024x512.size (k0_off5_inb (grid0.coords t) hc)) (fun _ => rfl)).squeeze S1024x512 squeezes_S1x1x1024x512_S1024x512 = win (Ring.sl 2 (t.val + 1)) 0 1 :=
  win_eq (Ring.sl 2 (t.val + 1)) 0 1 (off_wN01 t hc) _
@[sl_canon] theorem name_wN01' (t : Fin grid0.N) (hc : hasNext (grid0.coords t)) :
    (scX.slice (Rect.unit (s := S2x2x2048x512) (k0_off5 (grid0.coords t)) ![1, 1, 1024, 512] (k0_off5_inb (grid0.coords t) hc)) (fun _ => rfl)).squeeze S1024x512 squeezes_S1x1x1024x512_S1024x512 = win (Ring.sl 2 (t.val + 1)) 0 1 := name_wN01 t hc
set_option synthInstance.maxSize 4096 in
theorem off_sN01 : ∀ t : Fin grid0.N, hasNext (grid0.coords t) → (k0_off6 (grid0.coords t) 0#32) = ![2 * (Ring.bk 8 (t.val + 1)).val + ((0 : Fin 2)).val, 1024 * ((1 : Fin 2)).val, 0] := by decide +kernel
@[sl_canon] theorem name_sN01 (t : Fin grid0.N) (hc : hasNext (grid0.coords t)) :
    (hbX.slice (Rect.unit (s := S16x2048x512) (k0_off6 (grid0.coords t) 0#32) S1x1024x512.size (k0_off6_inb (grid0.coords t) hc 0)) (fun _ => rfl)).squeeze S1024x512 squeezes_S1x1024x512_S1024x512 = src (Ring.bk 8 (t.val + 1)) 0 1 :=
  src_eq (Ring.bk 8 (t.val + 1)) 0 1 (off_sN01 t hc) _
@[sl_canon] theorem name_sN01' (t : Fin grid0.N) (hc : hasNext (grid0.coords t)) :
    (hbX.slice (Rect.unit (s := S16x2048x512) (k0_off6 (grid0.coords t) 0#32) ![1, 1024, 512] (k0_off6_inb (grid0.coords t) hc 0)) (fun _ => rfl)).squeeze S1024x512 squeezes_S1x1024x512_S1024x512 = src (Ring.bk 8 (t.val + 1)) 0 1 := name_sN01 t hc
set_option synthInstance.maxSize 4096 in
theorem off_cN10 : ∀ t : Fin grid0.N, hasNext (grid0.coords t) → (k0_off7 (grid0.coords t)) = ![(Ring.sl 2 (t.val + 1)).val, ((1 : Fin 2)).val, ((0 : Fin 2)).val] := by decide +kernel
@[sl_canon] theorem name_cN10 (t : Fin grid0.N) (hc : hasNext (grid0.coords t)) :
    (cc0_scratch4.slice (Rect.unit (s := S2x2x2) (k0_off7 (grid0.coords t)) S1x1x1.size (k0_off7_inb (grid0.coords t) hc))).squeeze S_ squeezes_S1x1x1_S_ = cellA (Ring.sl 2 (t.val + 1)) 1 0 :=
  cell_eq (Ring.sl 2 (t.val + 1)) 1 0 (off_cN10 t hc) _
@[sl_canon] theorem name_cN10' (t : Fin grid0.N) (hc : hasNext (grid0.coords t)) :
    (cc0_scratch4.slice (Rect.unit (s := S2x2x2) (k0_off7 (grid0.coords t)) ![1, 1, 1] (k0_off7_inb (grid0.coords t) hc))).squeeze S_ squeezes_S1x1x1_S_ = cellA (Ring.sl 2 (t.val + 1)) 1 0 := name_cN10 t hc
set_option synthInstance.maxSize 4096 in
theorem off_wN10 : ∀ t : Fin grid0.N, hasNext (grid0.coords t) → (k0_off8 (grid0.coords t)) = ![(Ring.sl 2 (t.val + 1)).val, ((1 : Fin 2)).val, 1024 * ((0 : Fin 2)).val, 0] := by decide +kernel
@[sl_canon] theorem name_wN10 (t : Fin grid0.N) (hc : hasNext (grid0.coords t)) :
    (scX.slice (Rect.unit (s := S2x2x2048x512) (k0_off8 (grid0.coords t)) S1x1x1024x512.size (k0_off8_inb (grid0.coords t) hc)) (fun _ => rfl)).squeeze S1024x512 squeezes_S1x1x1024x512_S1024x512 = win (Ring.sl 2 (t.val + 1)) 1 0 :=
  win_eq (Ring.sl 2 (t.val + 1)) 1 0 (off_wN10 t hc) _
@[sl_canon] theorem name_wN10' (t : Fin grid0.N) (hc : hasNext (grid0.coords t)) :
    (scX.slice (Rect.unit (s := S2x2x2048x512) (k0_off8 (grid0.coords t)) ![1, 1, 1024, 512] (k0_off8_inb (grid0.coords t) hc)) (fun _ => rfl)).squeeze S1024x512 squeezes_S1x1x1024x512_S1024x512 = win (Ring.sl 2 (t.val + 1)) 1 0 := name_wN10 t hc
set_option synthInstance.maxSize 4096 in
theorem off_sN10 : ∀ t : Fin grid0.N, hasNext (grid0.coords t) → (k0_off3 (grid0.coords t) 1#32) = ![2 * (Ring.bk 8 (t.val + 1)).val + ((1 : Fin 2)).val, 1024 * ((0 : Fin 2)).val, 0] := by decide +kernel
@[sl_canon] theorem name_sN10 (t : Fin grid0.N) (hc : hasNext (grid0.coords t)) :
    (hbX.slice (Rect.unit (s := S16x2048x512) (k0_off3 (grid0.coords t) 1#32) S1x1024x512.size (k0_off3_inb (grid0.coords t) hc 1)) (fun _ => rfl)).squeeze S1024x512 squeezes_S1x1024x512_S1024x512 = src (Ring.bk 8 (t.val + 1)) 1 0 :=
  src_eq (Ring.bk 8 (t.val + 1)) 1 0 (off_sN10 t hc) _
@[sl_canon] theorem name_sN10' (t : Fin grid0.N) (hc : hasNext (grid0.coords t)) :
    (hbX.slice (Rect.unit (s := S16x2048x512) (k0_off3 (grid0.coords t) 1#32) ![1, 1024, 512] (k0_off3_inb (grid0.coords t) hc 1)) (fun _ => rfl)).squeeze S1024x512 squeezes_S1x1024x512_S1024x512 = src (Ring.bk 8 (t.val + 1)) 1 0 := name_sN10 t hc
set_option synthInstance.maxSize 4096 in
theorem off_cN11 : ∀ t : Fin grid0.N, hasNext (grid0.coords t) → (k0_off9 (grid0.coords t)) = ![(Ring.sl 2 (t.val + 1)).val, ((1 : Fin 2)).val, ((1 : Fin 2)).val] := by decide +kernel
@[sl_canon] theorem name_cN11 (t : Fin grid0.N) (hc : hasNext (grid0.coords t)) :
    (cc0_scratch4.slice (Rect.unit (s := S2x2x2) (k0_off9 (grid0.coords t)) S1x1x1.size (k0_off9_inb (grid0.coords t) hc))).squeeze S_ squeezes_S1x1x1_S_ = cellA (Ring.sl 2 (t.val + 1)) 1 1 :=
  cell_eq (Ring.sl 2 (t.val + 1)) 1 1 (off_cN11 t hc) _
@[sl_canon] theorem name_cN11' (t : Fin grid0.N) (hc : hasNext (grid0.coords t)) :
    (cc0_scratch4.slice (Rect.unit (s := S2x2x2) (k0_off9 (grid0.coords t)) ![1, 1, 1] (k0_off9_inb (grid0.coords t) hc))).squeeze S_ squeezes_S1x1x1_S_ = cellA (Ring.sl 2 (t.val + 1)) 1 1 := name_cN11 t hc
set_option synthInstance.maxSize 4096 in
theorem off_wN11 : ∀ t : Fin grid0.N, hasNext (grid0.coords t) → (k0_off10 (grid0.coords t)) = ![(Ring.sl 2 (t.val + 1)).val, ((1 : Fin 2)).val, 1024 * ((1 : Fin 2)).val, 0] := by decide +kernel
@[sl_canon] theorem name_wN11 (t : Fin grid0.N) (hc : hasNext (grid0.coords t)) :
    (scX.slice (Rect.unit (s := S2x2x2048x512) (k0_off10 (grid0.coords t)) S1x1x1024x512.size (k0_off10_inb (grid0.coords t) hc)) (fun _ => rfl)).squeeze S1024x512 squeezes_S1x1x1024x512_S1024x512 = win (Ring.sl 2 (t.val + 1)) 1 1 :=
  win_eq (Ring.sl 2 (t.val + 1)) 1 1 (off_wN11 t hc) _
@[sl_canon] theorem name_wN11' (t : Fin grid0.N) (hc : hasNext (grid0.coords t)) :
    (scX.slice (Rect.unit (s := S2x2x2048x512) (k0_off10 (grid0.coords t)) ![1, 1, 1024, 512] (k0_off10_inb (grid0.coords t) hc)) (fun _ => rfl)).squeeze S1024x512 squeezes_S1x1x1024x512_S1024x512 = win (Ring.sl 2 (t.val + 1)) 1 1 := name_wN11 t hc
set_option synthInstance.maxSize 4096 in
theorem off_sN11 : ∀ t : Fin grid0.N, hasNext (grid0.coords t) → (k0_off6 (grid0.coords t) 1#32) = ![2 * (Ring.bk 8 (t.val + 1)).val + ((1 : Fin 2)).val, 1024 * ((1 : Fin 2)).val, 0] := by decide +kernel
@[sl_canon] theorem name_sN11 (t : Fin grid0.N) (hc : hasNext (grid0.coords t)) :
    (hbX.slice (Rect.unit (s := S16x2048x512) (k0_off6 (grid0.coords t) 1#32) S1x1024x512.size (k0_off6_inb (grid0.coords t) hc 1)) (fun _ => rfl)).squeeze S1024x512 squeezes_S1x1024x512_S1024x512 = src (Ring.bk 8 (t.val + 1)) 1 1 :=
  src_eq (Ring.bk 8 (t.val + 1)) 1 1 (off_sN11 t hc) _
@[sl_canon] theorem name_sN11' (t : Fin grid0.N) (hc : hasNext (grid0.coords t)) :
    (hbX.slice (Rect.unit (s := S16x2048x512) (k0_off6 (grid0.coords t) 1#32) ![1, 1024, 512] (k0_off6_inb (grid0.coords t) hc 1)) (fun _ => rfl)).squeeze S1024x512 squeezes_S1x1024x512_S1024x512 = src (Ring.bk 8 (t.val + 1)) 1 1 := name_sN11 t hc
/-! ### The copies waited for -/

set_option synthInstance.maxSize 4096 in
theorem off_cW00 : ∀ t : Fin grid0.N, (k0_off11 (grid0.coords t)) = ![(Ring.sl 2 t.val).val, ((0 : Fin 2)).val, ((0 : Fin 2)).val] := by decide +kernel
@[sl_canon] theorem name_cW00 (t : Fin grid0.N) :
    (cc0_scratch4.slice (Rect.unit (s := S2x2x2) (k0_off11 (grid0.coords t)) S1x1x1.size (k0_off11_inb (grid0.coords t)))).squeeze S_ squeezes_S1x1x1_S_ = cellA (Ring.sl 2 t.val) 0 0 :=
  cell_eq (Ring.sl 2 t.val) 0 0 (off_cW00 t) _
@[sl_canon] theorem name_cW00' (t : Fin grid0.N) :
    (cc0_scratch4.slice (Rect.unit (s := S2x2x2) (k0_off11 (grid0.coords t)) ![1, 1, 1] (k0_off11_inb (grid0.coords t)))).squeeze S_ squeezes_S1x1x1_S_ = cellA (Ring.sl 2 t.val) 0 0 := name_cW00 t
set_option synthInstance.maxSize 4096 in
theorem off_wW00 : ∀ t : Fin grid0.N, (k0_off12 (grid0.coords t)) = ![(Ring.sl 2 t.val).val, ((0 : Fin 2)).val, 1024 * ((0 : Fin 2)).val, 0] := by decide +kernel
@[sl_canon] theorem name_wW00 (t : Fin grid0.N) :
    (scX.slice (Rect.unit (s := S2x2x2048x512) (k0_off12 (grid0.coords t)) S1x1x1024x512.size (k0_off12_inb (grid0.coords t))) (fun _ => rfl)).squeeze S1024x512 squeezes_S1x1x1024x512_S1024x512 = win (Ring.sl 2 t.val) 0 0 :=
  win_eq (Ring.sl 2 t.val) 0 0 (off_wW00 t) _
@[sl_canon] theorem name_wW00' (t : Fin grid0.N) :
    (scX.slice (Rect.unit (s := S2x2x2048x512) (k0_off12 (grid0.coords t)) ![1, 1, 1024, 512] (k0_off12_inb (grid0.coords t))) (fun _ => rfl)).squeeze S1024x512 squeezes_S1x1x1024x512_S1024x512 = win (Ring.sl 2 t.val) 0 0 := name_wW00 t
set_option synthInstance.maxSize 4096 in
theorem off_sW00 : ∀ t : Fin grid0.N, (k0_off13 (grid0.coords t) 0#32) = ![2 * (Ring.bk 8 t.val).val + ((0 : Fin 2)).val, 1024 * ((0 : Fin 2)).val, 0] := by decide +kernel
@[sl_canon] theorem name_sW00 (t : Fin grid0.N) :
    (hbX.slice (Rect.unit (s := S16x2048x512) (k0_off13 (grid0.coords t) 0#32) S1x1024x512.size (k0_off13_inb (grid0.coords t) 0)) (fun _ => rfl)).squeeze S1024x512 squeezes_S1x1024x512_S1024x512 = src (Ring.bk 8 t.val) 0 0 :=
  src_eq (Ring.bk 8 t.val) 0 0 (off_sW00 t) _
@[sl_canon] theorem name_sW00' (t : Fin grid0.N) :
    (hbX.slice (Rect.unit (s := S16x2048x512) (k0_off13 (grid0.coords t) 0#32) ![1, 1024, 512] (k0_off13_inb (grid0.coords t) 0)) (fun _ => rfl)).squeeze S1024x512 squeezes_S1x1024x512_S1024x512 = src (Ring.bk 8 t.val) 0 0 := name_sW00 t
set_option synthInstance.maxSize 4096 in
theorem off_cW01 : ∀ t : Fin grid0.N, (k0_off14 (grid0.coords t)) = ![(Ring.sl 2 t.val).val, ((0 : Fin 2)).val, ((1 : Fin 2)).val] := by decide +kernel
@[sl_canon] theorem name_cW01 (t : Fin grid0.N) :
    (cc0_scratch4.slice (Rect.unit (s := S2x2x2) (k0_off14 (grid0.coords t)) S1x1x1.size (k0_off14_inb (grid0.coords t)))).squeeze S_ squeezes_S1x1x1_S_ = cellA (Ring.sl 2 t.val) 0 1 :=
  cell_eq (Ring.sl 2 t.val) 0 1 (off_cW01 t) _
@[sl_canon] theorem name_cW01' (t : Fin grid0.N) :
    (cc0_scratch4.slice (Rect.unit (s := S2x2x2) (k0_off14 (grid0.coords t)) ![1, 1, 1] (k0_off14_inb (grid0.coords t)))).squeeze S_ squeezes_S1x1x1_S_ = cellA (Ring.sl 2 t.val) 0 1 := name_cW01 t
set_option synthInstance.maxSize 4096 in
theorem off_wW01 : ∀ t : Fin grid0.N, (k0_off15 (grid0.coords t)) = ![(Ring.sl 2 t.val).val, ((0 : Fin 2)).val, 1024 * ((1 : Fin 2)).val, 0] := by decide +kernel
@[sl_canon] theorem name_wW01 (t : Fin grid0.N) :
    (scX.slice (Rect.unit (s := S2x2x2048x512) (k0_off15 (grid0.coords t)) S1x1x1024x512.size (k0_off15_inb (grid0.coords t))) (fun _ => rfl)).squeeze S1024x512 squeezes_S1x1x1024x512_S1024x512 = win (Ring.sl 2 t.val) 0 1 :=
  win_eq (Ring.sl 2 t.val) 0 1 (off_wW01 t) _
@[sl_canon] theorem name_wW01' (t : Fin grid0.N) :
    (scX.slice (Rect.unit (s := S2x2x2048x512) (k0_off15 (grid0.coords t)) ![1, 1, 1024, 512] (k0_off15_inb (grid0.coords t))) (fun _ => rfl)).squeeze S1024x512 squeezes_S1x1x1024x512_S1024x512 = win (Ring.sl 2 t.val) 0 1 := name_wW01 t
set_option synthInstance.maxSize 4096 in
theorem off_sW01 : ∀ t : Fin grid0.N, (k0_off16 (grid0.coords t) 0#32) = ![2 * (Ring.bk 8 t.val).val + ((0 : Fin 2)).val, 1024 * ((1 : Fin 2)).val, 0] := by decide +kernel
@[sl_canon] theorem name_sW01 (t : Fin grid0.N) :
    (hbX.slice (Rect.unit (s := S16x2048x512) (k0_off16 (grid0.coords t) 0#32) S1x1024x512.size (k0_off16_inb (grid0.coords t) 0)) (fun _ => rfl)).squeeze S1024x512 squeezes_S1x1024x512_S1024x512 = src (Ring.bk 8 t.val) 0 1 :=
  src_eq (Ring.bk 8 t.val) 0 1 (off_sW01 t) _
@[sl_canon] theorem name_sW01' (t : Fin grid0.N) :
    (hbX.slice (Rect.unit (s := S16x2048x512) (k0_off16 (grid0.coords t) 0#32) ![1, 1024, 512] (k0_off16_inb (grid0.coords t) 0)) (fun _ => rfl)).squeeze S1024x512 squeezes_S1x1024x512_S1024x512 = src (Ring.bk 8 t.val) 0 1 := name_sW01 t
set_option synthInstance.maxSize 4096 in
theorem off_cW10 : ∀ t : Fin grid0.N, (k0_off21 (grid0.coords t)) = ![(Ring.sl 2 t.val).val, ((1 : Fin 2)).val, ((0 : Fin 2)).val] := by decide +kernel
@[sl_canon] theorem name_cW10 (t : Fin grid0.N) :
    (cc0_scratch4.slice (Rect.unit (s := S2x2x2) (k0_off21 (grid0.coords t)) S1x1x1.size (k0_off21_inb (grid0.coords t)))).squeeze S_ squeezes_S1x1x1_S_ = cellA (Ring.sl 2 t.val) 1 0 :=
  cell_eq (Ring.sl 2 t.val) 1 0 (off_cW10 t) _
@[sl_canon] theorem name_cW10' (t : Fin grid0.N) :
    (cc0_scratch4.slice (Rect.unit (s := S2x2x2) (k0_off21 (grid0.coords t)) ![1, 1, 1] (k0_off21_inb (grid0.coords t)))).squeeze S_ squeezes_S1x1x1_S_ = cellA (Ring.sl 2 t.val) 1 0 := name_cW10 t
set_option synthInstance.maxSize 4096 in
theorem off_wW10 : ∀ t : Fin grid0.N, (k0_off22 (grid0.coords t)) = ![(Ring.sl 2 t.val).val, ((1 : Fin 2)).val, 1024 * ((0 : Fin 2)).val, 0] := by decide +kernel
@[sl_canon] theorem name_wW10 (t : Fin grid0.N) :
    (scX.slice (Rect.unit (s := S2x2x2048x512) (k0_off22 (grid0.coords t)) S1x1x1024x512.size (k0_off22_inb (grid0.coords t))) (fun _ => rfl)).squeeze S1024x512 squeezes_S1x1x1024x512_S1024x512 = win (Ring.sl 2 t.val) 1 0 :=
  win_eq (Ring.sl 2 t.val) 1 0 (off_wW10 t) _
@[sl_canon] theorem name_wW10' (t : Fin grid0.N) :
    (scX.slice (Rect.unit (s := S2x2x2048x512) (k0_off22 (grid0.coords t)) ![1, 1, 1024, 512] (k0_off22_inb (grid0.coords t))) (fun _ => rfl)).squeeze S1024x512 squeezes_S1x1x1024x512_S1024x512 = win (Ring.sl 2 t.val) 1 0 := name_wW10 t
set_option synthInstance.maxSize 4096 in
theorem off_sW10 : ∀ t : Fin grid0.N, (k0_off13 (grid0.coords t) 1#32) = ![2 * (Ring.bk 8 t.val).val + ((1 : Fin 2)).val, 1024 * ((0 : Fin 2)).val, 0] := by decide +kernel
@[sl_canon] theorem name_sW10 (t : Fin grid0.N) :
    (hbX.slice (Rect.unit (s := S16x2048x512) (k0_off13 (grid0.coords t) 1#32) S1x1024x512.size (k0_off13_inb (grid0.coords t) 1)) (fun _ => rfl)).squeeze S1024x512 squeezes_S1x1024x512_S1024x512 = src (Ring.bk 8 t.val) 1 0 :=
  src_eq (Ring.bk 8 t.val) 1 0 (off_sW10 t) _
@[sl_canon] theorem name_sW10' (t : Fin grid0.N) :
    (hbX.slice (Rect.unit (s := S16x2048x512) (k0_off13 (grid0.coords t) 1#32) ![1, 1024, 512] (k0_off13_inb (grid0.coords t) 1)) (fun _ => rfl)).squeeze S1024x512 squeezes_S1x1024x512_S1024x512 = src (Ring.bk 8 t.val) 1 0 := name_sW10 t
set_option synthInstance.maxSize 4096 in
theorem off_cW11 : ∀ t : Fin grid0.N, (k0_off23 (grid0.coords t)) = ![(Ring.sl 2 t.val).val, ((1 : Fin 2)).val, ((1 : Fin 2)).val] := by decide +kernel
@[sl_canon] theorem name_cW11 (t : Fin grid0.N) :
    (cc0_scratch4.slice (Rect.unit (s := S2x2x2) (k0_off23 (grid0.coords t)) S1x1x1.size (k0_off23_inb (grid0.coords t)))).squeeze S_ squeezes_S1x1x1_S_ = cellA (Ring.sl 2 t.val) 1 1 :=
  cell_eq (Ring.sl 2 t.val) 1 1 (off_cW11 t) _
@[sl_canon] theorem name_cW11' (t : Fin grid0.N) :
    (cc0_scratch4.slice (Rect.unit (s := S2x2x2) (k0_off23 (grid0.coords t)) ![1, 1, 1] (k0_off23_inb (grid0.coords t)))).squeeze S_ squeezes_S1x1x1_S_ = cellA (Ring.sl 2 t.val) 1 1 := name_cW11 t
set_option synthInstance.maxSize 4096 in
theorem off_wW11 : ∀ t : Fin grid0.N, (k0_off24 (grid0.coords t)) = ![(Ring.sl 2 t.val).val, ((1 : Fin 2)).val, 1024 * ((1 : Fin 2)).val, 0] := by decide +kernel
@[sl_canon] theorem name_wW11 (t : Fin grid0.N) :
    (scX.slice (Rect.unit (s := S2x2x2048x512) (k0_off24 (grid0.coords t)) S1x1x1024x512.size (k0_off24_inb (grid0.coords t))) (fun _ => rfl)).squeeze S1024x512 squeezes_S1x1x1024x512_S1024x512 = win (Ring.sl 2 t.val) 1 1 :=
  win_eq (Ring.sl 2 t.val) 1 1 (off_wW11 t) _
@[sl_canon] theorem name_wW11' (t : Fin grid0.N) :
    (scX.slice (Rect.unit (s := S2x2x2048x512) (k0_off24 (grid0.coords t)) ![1, 1, 1024, 512] (k0_off24_inb (grid0.coords t))) (fun _ => rfl)).squeeze S1024x512 squeezes_S1x1x1024x512_S1024x512 = win (Ring.sl 2 t.val) 1 1 := name_wW11 t
set_option synthInstance.maxSize 4096 in
theorem off_sW11 : ∀ t : Fin grid0.N, (k0_off16 (grid0.coords t) 1#32) = ![2 * (Ring.bk 8 t.val).val + ((1 : Fin 2)).val, 1024 * ((1 : Fin 2)).val, 0] := by decide +kernel
@[sl_canon] theorem name_sW11 (t : Fin grid0.N) :
    (hbX.slice (Rect.unit (s := S16x2048x512) (k0_off16 (grid0.coords t) 1#32) S1x1024x512.size (k0_off16_inb (grid0.coords t) 1)) (fun _ => rfl)).squeeze S1024x512 squeezes_S1x1024x512_S1024x512 = src (Ring.bk 8 t.val) 1 1 :=
  src_eq (Ring.bk 8 t.val) 1 1 (off_sW11 t) _
@[sl_canon] theorem name_sW11' (t : Fin grid0.N) :
    (hbX.slice (Rect.unit (s := S16x2048x512) (k0_off16 (grid0.coords t) 1#32) ![1, 1024, 512] (k0_off16_inb (grid0.coords t) 1)) (fun _ => rfl)).squeeze S1024x512 squeezes_S1x1024x512_S1024x512 = src (Ring.bk 8 t.val) 1 1 := name_sW11 t
/-! ### The loads of the landed block, 512 rows at a time -/

set_option synthInstance.maxSize 4096 in
theorem off_l00 : ∀ t : Fin grid0.N, k0_off17 (grid0.coords t) = ![(Ring.sl 2 t.val).val, 0, 0, 0] := by decide +kernel
instance (priority := high) closedOff_l00 (t : Fin grid0.N) : ClosedOff (k0_off17 (grid0.coords t)) := ⟨![(Ring.sl 2 t.val).val, 0, 0, 0], off_l00 t⟩
set_option synthInstance.maxSize 4096 in
theorem off_l01 : ∀ t : Fin grid0.N, k0_off18 (grid0.coords t) = ![(Ring.sl 2 t.val).val, 0, 512, 0] := by decide +kernel
instance (priority := high) closedOff_l01 (t : Fin grid0.N) : ClosedOff (k0_off18 (grid0.coords t)) := ⟨![(Ring.sl 2 t.val).val, 0, 512, 0], off_l01 t⟩
set_option synthInstance.maxSize 4096 in
theorem off_l02 : ∀ t : Fin grid0.N, k0_off19 (grid0.coords t) = ![(Ring.sl 2 t.val).val, 0, 1024, 0] := by decide +kernel
instance (priority := high) closedOff_l02 (t : Fin grid0.N) : ClosedOff (k0_off19 (grid0.coords t)) := ⟨![(Ring.sl 2 t.val).val, 0, 1024, 0], off_l02 t⟩
set_option synthInstance.maxSize 4096 in
theorem off_l03 : ∀ t : Fin grid0.N, k0_off20 (grid0.coords t) = ![(Ring.sl 2 t.val).val, 0, 1536, 0] := by decide +kernel
instance (priority := high) closedOff_l03 (t : Fin grid0.N) : ClosedOff (k0_off20 (grid0.coords t)) := ⟨![(Ring.sl 2 t.val).val, 0, 1536, 0], off_l03 t⟩
set_option synthInstance.maxSize 4096 in
theorem off_l10 : ∀ t : Fin grid0.N, k0_off25 (grid0.coords t) = ![(Ring.sl 2 t.val).val, 1, 0, 0] := by decide +kernel
instance (priority := high) closedOff_l10 (t : Fin grid0.N) : ClosedOff (k0_off25 (grid0.coords t)) := ⟨![(Ring.sl 2 t.val).val, 1, 0, 0], off_l10 t⟩
set_option synthInstance.maxSize 4096 in
theorem off_l11 : ∀ t : Fin grid0.N, k0_off26 (grid0.coords t) = ![(Ring.sl 2 t.val).val, 1, 512, 0] := by decide +kernel
instance (priority := high) closedOff_l11 (t : Fin grid0.N) : ClosedOff (k0_off26 (grid0.coords t)) := ⟨![(Ring.sl 2 t.val).val, 1, 512, 0], off_l11 t⟩
set_option synthInstance.maxSize 4096 in
theorem off_l12 : ∀ t : Fin grid0.N, k0_off27 (grid0.coords t) = ![(Ring.sl 2 t.val).val, 1, 1024, 0] := by decide +kernel
instance (priority := high) closedOff_l12 (t : Fin grid0.N) : ClosedOff (k0_off27 (grid0.coords t)) := ⟨![(Ring.sl 2 t.val).val, 1, 1024, 0], off_l12 t⟩
set_option synthInstance.maxSize 4096 in
theorem off_l13 : ∀ t : Fin grid0.N, k0_off28 (grid0.coords t) = ![(Ring.sl 2 t.val).val, 1, 1536, 0] := by decide +kernel
instance (priority := high) closedOff_l13 (t : Fin grid0.N) : ClosedOff (k0_off28 (grid0.coords t)) := ⟨![(Ring.sl 2 t.val).val, 1, 1536, 0], off_l13 t⟩

end Canon

end Cert.KernelIdeal.Bag
-- ==== Proof.KernelIdeal.Step.lean ====
/- What one grid step computes from the rows of its two bags, as functions of the values the step loads. -/
module

public import proofs.«01_k».proof.Proof.KernelIdeal.Names
public import Idealize.ShloMosaic.Lib.ValueLayout
public import Idealize.ShloMosaic.Lib.VecWindow

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- Rows `512 j … 512 j + 511` of bag `n` of `x`, with the two leading unit axes the kernel loads them under. -/
def chunk (X : Vec F S16x2048x512 .f32) (n : Fin 16) (j : Fin 4) : Vec F S1x1x512x512 .f32 :=
  fun i => X (ix3 n (⟨512 * j.val + (i 2).val, by have := (i 2).isLt; have := j.isLt; simp at *; omega⟩ : Fin 2048) (i 3))

/-- Bag `k` of the block of point `b`. -/
def bagNo (b : Fin 8) (k : Fin 2) : Fin 16 := ⟨2 * b.val + k.val, by omega⟩

/-- A load through the whole two-slot buffer reads its contents at the load's index. -/
theorem readAt_scX (f : (S2x2x2048x512 : Shape).Idx → Elt F .f32) (r : LoadRect S2x2x2048x512) (x : r.shape.Idx) :
    View.readAt (Elt F) scX.view r f x = f (r.idx x) := rfl

/-- What a copy carries from a part of `x`: its elements. -/
theorem read_src (X : (S16x2048x512 : Shape).Idx → Elt F .f32) (b : Fin 8) (k h : Fin 2) (y : S1024x512.Idx) :
    (ReadAs.same.apply ((src b k h).view.read (Elt F) X) : S1024x512.Idx → Elt F .f32) y = X ((src b k h).view.emb y) := rfl

/-- A landed window holds what was carried. -/
theorem landed_emb (s k h : Fin 2) (p : S1024x512.Idx → Elt F .f32) (y : S1024x512.Idx) :
    (win s k h).view.writes (Elt F) (win s k h).view.junk [⟨Rect.whole S1024x512, p⟩] ((win s k h).view.emb y) = p y :=
  View.rep_emb (Val := Elt F) (win s k h).view p y

/-- What a load of the rows `512 q …` of a landed window reads: those rows of `x`. -/
theorem load_landed (c : Dev nD) (X : HbBuf (F := F) c hbX) (s k h : Fin 2) (b : Fin 8) (q : Fin 2) (j : Fin 4)
    (hj : j.val = 2 * h.val + q.val) {off : Fin 4 → Nat} (e : off = ![s.val, k.val, 512 * j.val, 0])
    (i : ∀ a, off a + S1x1x512x512.size a ≤ S2x2x2048x512.size a) :
    View.readAt (Elt F) scX.view (Rect.unit (s := S2x2x2048x512) off S1x1x512x512.size i).toLoadRect
        ((win s k h).view.writes (Elt F) (win s k h).view.junk [⟨Rect.whole S1024x512, ReadAs.same.apply ((src b k h).view.read (Elt F) X)⟩])
      = chunk (F := F) X (bagNo b k) j := by
  subst e
  funext x
  have h2 : (x 2).val < 512 := (x 2).isLt
  have h3 : (x 3).val < 512 := (x 3).isLt
  have hq := q.isLt
  set y : S1024x512.Idx := ix2 (⟨512 * q.val + (x 2).val, by omega⟩ : Fin 1024) (⟨(x 3).val, h3⟩ : Fin 512) with hy
  have hidx : (Rect.unit (s := S2x2x2048x512) ![s.val, k.val, 512 * j.val, 0] S1x1x512x512.size i).toLoadRect.idx x = (win s k h).view.emb y := by
    have hr := reshapeEquiv_ix2_11ab (a := 1024) (b := 512) squeezes_S1x1x1024x512_S1024x512.numel_eq (⟨512 * q.val + (x 2).val, by omega⟩ : Fin 1024) (⟨(x 3).val, h3⟩ : Fin 512)
    show _ = (Rect.unit (s := S2x2x2048x512) ![s.val, k.val, 1024 * h.val, 0] S1x1x1024x512.size (inb_win s k h)).emb (Shape.reshapeEquiv squeezes_S1x1x1024x512_S1024x512.numel_eq y)
    rw [hy]
    refine Eq.trans ?_ (congrArg _ hr.symm)
    funext a
    apply Fin.ext
    have h0 : (x 0).val < 1 := (x 0).isLt
    have h1 : (x 1).val < 1 := (x 1).isLt
    fin_cases a
    · show s.val + 1 * (x 0).val = s.val + 1 * 0; omega
    · show k.val + 1 * (x 1).val = k.val + 1 * 0; omega
    · show 512 * j.val + 1 * (x 2).val = 1024 * h.val + 1 * (512 * q.val + (x 2).val); omega
    · rfl
  have hsrc : (src b k h).view.emb y = ix3 (bagNo b k) (⟨512 * j.val + (x 2).val, by have := j.isLt; omega⟩ : Fin 2048) (x 3) := by
    have hr := reshapeEquiv_ix2_1ab (a := 1024) (b := 512) squeezes_S1x1024x512_S1024x512.numel_eq (⟨512 * q.val + (x 2).val, by omega⟩ : Fin 1024) (⟨(x 3).val, h3⟩ : Fin 512)
    show (Rect.unit (s := S16x2048x512) ![2 * b.val + k.val, 1024 * h.val, 0] S1x1024x512.size (inb_src b k h)).emb (Shape.reshapeEquiv squeezes_S1x1024x512_S1024x512.numel_eq y) = _
    rw [hy]
    refine Eq.trans (congrArg _ hr) ?_
    funext a
    apply Fin.ext
    fin_cases a
    · show 2 * b.val + k.val + 1 * 0 = 2 * b.val + k.val; omega
    · show 1024 * h.val + 1 * (512 * q.val + (x 2).val) = 512 * j.val + (x 2).val; omega
    · show 0 + 1 * (x 3).val = (x 3).val; omega
  generalize hp : (ReadAs.same.apply ((src b k h).view.read (Elt F) X) : S1024x512.Idx → Elt F .f32) = p
  have hL := landed_emb (F := F) s k h p y
  have hS := read_src (F := F) X b k h y
  rw [hp, hsrc] at hS
  generalize hf : (win s k h).view.writes (Elt F) (win s k h).view.junk [⟨Rect.whole S1024x512, p⟩] = f at hL ⊢
  exact (readAt_scX (F := F) f _ x).trans ((congrArg f hidx).trans (hL.trans hS))

/-- A load of a whole buffer's own extents reads its contents. -/
theorem load_whole {S : Shape} {e : EltTy} {sp : Space} {m : Memref sig .tc sp S e} (hm : m.IsWhole) (x : Vec F S e) {off : Fin S.rank → Nat}
    (i : ∀ a, off a + S.size a ≤ S.size a) :
    View.readAt (Elt F) m.view (Rect.unit (s := S) off S.size i).toLoadRect (hm.unread x) = x := by
  rw [View.readAt_full, hm.read_unread]

/-- The bag means `u` after the step's first bag: from the weights, the bag's four chunks of rows and `u` before. -/
def bagA (g : BitVec 32) (w : Vec F S512x128 .f32) (c0 c1 c2 c3 : Vec F S1x1x512x512 .f32) (u : Vec F S64x16 .f32) : Vec F S64x16 .f32 :=
  k0_pay37 g (iota .tc S64x16 32 [1] iota_S64x16_d1_w32)
    (k0_pay29 w (k0_pay15 w c0) (k0_pay18 w c1) (k0_pay20 w c0 c1) (k0_pay21 w c0 c1) (k0_pay22 w c0 c1) c2)
    (k0_pay30 w (k0_pay16 w c0) (k0_pay18 w c1) (k0_pay19 w c1) (k0_pay20 w c0 c1) (k0_pay21 w c0 c1) (k0_pay22 w c0 c1) c2)
    (k0_pay32 w c3) (k0_pay33 w c3) (k0_pay35 w (k0_pay20 w c0 c1) c2 c3) (k0_pay36 w (k0_pay20 w c0 c1) c2 c3) u

/-- The bag means `u` after the step's second bag. -/
def bagB (g : BitVec 32) (w : Vec F S512x128 .f32) (c0 c1 c2 c3 : Vec F S1x1x512x512 .f32) (u : Vec F S64x16 .f32) : Vec F S64x16 .f32 :=
  k0_pay1 g (iota .tc S64x16 32 [1] iota_S64x16_d1_w32)
    (k0_pay55 w (k0_pay41 w c0) (k0_pay49 w c1) c2)
    (k0_pay58 w (k0_pay41 w c0) (k0_pay44 w c0) (k0_pay47 w c1) (k0_pay49 w c1) c2)
    (k0_pay59 w (k0_pay41 w c0) (k0_pay45 w c0) (k0_pay47 w c1) (k0_pay48 w c1) (k0_pay49 w c1) c2)
    (k0_pay61 w c3) (k0_pay62 w c3) (k0_pay63 w c3) u

/-- The bag means after a whole step: its two bags in turn. -/
def stepU (X : Vec F S16x2048x512 .f32) (t : Fin grid0.N) (w : Vec F S512x128 .f32) (u : Vec F S64x16 .f32) : Vec F S64x16 .f32 :=
  let g := BitVec.ofNat 32 (grid0.coords t 0).val
  let b := Ring.bk 8 t.val
  bagB g w (chunk X (bagNo b 1) 0) (chunk X (bagNo b 1) 1) (chunk X (bagNo b 1) 2) (chunk X (bagNo b 1) 3)
    (bagA g w (chunk X (bagNo b 0) 0) (chunk X (bagNo b 0) 1) (chunk X (bagNo b 0) 2) (chunk X (bagNo b 0) 3) u)

end Cert.KernelIdeal.Bag
-- ==== Proof.KernelIdeal.RunA.lean ====
/- The first grid point's step: it starts the copies of block 0 and block 1, prepares the weights and the norms, clears
   `u`, waits for block 0 and adds its two bags' means. -/
module

public import proofs.«01_k».proof.Proof.KernelIdeal.Step

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in
/-- The first point's step: from the three prepared inputs and both slots at rest, it leaves the weights, the norms, the
    means of block 0's bags over the cleared `u`, its slot at rest and block 1 in flight. -/
theorem run_first (c : Dev nD) (t : Fin cfg0.N)
    (arg1 : Memref sig .tc .vmem S1024x64 .f32) (harg1 : arg1.IsWhole) (arg2 : Memref sig .tc .vmem S1024x64 .f32) (harg2 : arg2.IsWhole)
    (arg3 : Memref sig .tc .vmem S1024x64 .f32) (harg3 : arg3.IsWhole) (arg5 : Memref sig .tc .vmem S16x64 .f32) (harg5 : arg5.IsWhole)
    (hc0 : isFirst (grid0.coords t)) (hc1 : hasNext (grid0.coords t)) (hc2 : ¬isLast (grid0.coords t))
    (X : HbBuf (F := F) c hbX) (x1 x2 x3 : Vec F S1024x64 .f32) :
    ∀ (O : Waits sig Unit) (K : PUnit → sProp 𝕄),
      iprop(owns (c : Thread nD τ) arg1 fullShare x1 ∗ owns (c : Thread nD τ) arg2 fullShare x2 ∗ owns (c : Thread nD τ) arg3 fullShare x3
          ∗ (∃ d, owns (c : Thread nD τ) scW fullShare d) ∗ (∃ d, owns (c : Thread nD τ) scB fullShare d) ∗ (∃ d, owns (c : Thread nD τ) scU fullShare d)
          ∗ freeSlot c X (Ring.sl 2 t.val) ∗ freeSlot c X (Ring.sl 2 (t.val + 1)) ∗ owes (c : Thread nD τ) 0 O
          ∗ (iprop(owns (c : Thread nD τ) arg1 fullShare x1 ∗ owns (c : Thread nD τ) arg2 fullShare x2 ∗ owns (c : Thread nD τ) arg3 fullShare x3
              ∗ owns (c : Thread nD τ) scW fullShare (k0_pay6 x1 x2 x3) ∗ owns (c : Thread nD τ) scB fullShare (k0_pay7 x1 x2 x3)
              ∗ owns (c : Thread nD τ) scU fullShare (stepU X t (k0_pay6 x1 x2 x3) k0_pay8)
              ∗ freeSlot c X (Ring.sl 2 t.val) ∗ busySlot c X (Ring.sl 2 (t.val + 1)) (Ring.bk 8 (t.val + 1))
              ∗ (∃ O', owes (c : Thread nD τ) 0 O')) -∗ K ⟨⟩))
        ⊢ wp frame (wpE (defs₀ (F := F)) Variants.none c none) Set.univ
            (cc0__mixmil_kernel (grid0.coords t) arg1 harg1 arg2 harg2 arg3 harg3 (Memref.whole main_arg0) (Memref.isWhole_whole _) arg5 harg5
              scW (Memref.isWhole_whole _) scB (Memref.isWhole_whole _) scU (Memref.isWhole_whole _) scX (Memref.isWhole_whole _) cc0_scratch4) K := by
  intro O K
  haveI : Fact (isFirst (grid0.coords t)) := ⟨hc0⟩
  haveI : Fact (hasNext (grid0.coords t)) := ⟨hc1⟩
  haveI : Fact (¬isLast (grid0.coords t)) := ⟨hc2⟩
  simp only [cc0__mixmil_kernel_eq_skeleton]; unfold cc0__mixmil_kernel_skel
  simp only [k0_part3_eq_skeleton, k0_part4_eq_skeleton, k0_part5_eq_skeleton, k0_part6_eq_skeleton, k0_part7_eq_skeleton, k0_part8_eq_skeleton]
  unfold k0_part3_skel k0_part4_skel k0_part5_skel k0_part6_skel k0_part7_skel k0_part8_skel
  simp only [k0_part1_eq_skeleton, k0_part2_eq_skeleton]
  unfold k0_part1_skel k0_part2_skel
  unfold owns busySlot freeSlot busyP freeP
  iintro ⟨⟨%f1, %hf1, H1⟩, ⟨%f2, %hf2, H2⟩, ⟨%f3, %hf3, H3⟩, ⟨%dw, %fw, -, HW⟩, ⟨%db, %fb, -, HB⟩, ⟨%du, %fu, -, HU⟩, ⟨⟨B00, ⟨%e00, V00⟩, Y00⟩, ⟨B01, ⟨%e01, V01⟩, Y01⟩, ⟨B10, ⟨%e10, V10⟩, Y10⟩, ⟨B11, ⟨%e11, V11⟩, Y11⟩⟩, ⟨⟨C00, ⟨%g00, W00⟩, X00⟩, ⟨C01, ⟨%g01, W01⟩, X01⟩, ⟨C10, ⟨%g10, W10⟩, X10⟩, ⟨C11, ⟨%g11, W11⟩, X11⟩⟩, HO, Hk⟩
  obtain rfl := harg1.eq_unread hf1
  obtain rfl := harg2.eq_unread hf2
  obtain rfl := harg3.eq_unread hf3
  ihave T00 := (src_split c X (Ring.sl 2 t.val) 0 0 (Ring.bk 8 t.val)).1 $$ Y00
  icases T00 with ⟨T00, R00⟩
  ihave T01 := (src_split c X (Ring.sl 2 t.val) 0 1 (Ring.bk 8 t.val)).1 $$ Y01
  icases T01 with ⟨T01, R01⟩
  ihave T10 := (src_split c X (Ring.sl 2 t.val) 1 0 (Ring.bk 8 t.val)).1 $$ Y10
  icases T10 with ⟨T10, R10⟩
  ihave T11 := (src_split c X (Ring.sl 2 t.val) 1 1 (Ring.bk 8 t.val)).1 $$ Y11
  icases T11 with ⟨T11, R11⟩
  ihave S00 := (src_split c X (Ring.sl 2 (t.val + 1)) 0 0 (Ring.bk 8 (t.val + 1))).1 $$ X00
  icases S00 with ⟨S00, N00⟩
  ihave S01 := (src_split c X (Ring.sl 2 (t.val + 1)) 0 1 (Ring.bk 8 (t.val + 1))).1 $$ X01
  icases S01 with ⟨S01, N01⟩
  ihave S10 := (src_split c X (Ring.sl 2 (t.val + 1)) 1 0 (Ring.bk 8 (t.val + 1))).1 $$ X10
  icases S10 with ⟨S10, N10⟩
  ihave S11 := (src_split c X (Ring.sl 2 (t.val + 1)) 1 1 (Ring.bk 8 (t.val + 1))).1 $$ X11
  icases S11 with ⟨S11, N11⟩
  sl_exec (disch := first | sl_exact hc0 | sl_exact hc1 | sl_exact hc2)
  sl_step
  iapply Hk
  have e1 : View.readAt (Elt F) arg1.view (Rect.unit (s := S1024x64) ![0, 0] S1024x64.size inb_S1024x64_S1024x64_0_0).toLoadRect (harg1.unread x1) = x1 := load_whole _ x1 _
  have e2 : View.readAt (Elt F) arg2.view (Rect.unit (s := S1024x64) ![0, 0] S1024x64.size inb_S1024x64_S1024x64_0_0).toLoadRect (harg2.unread x2) = x2 := load_whole _ x2 _
  have e3 : View.readAt (Elt F) arg3.view (Rect.unit (s := S1024x64) ![0, 0] S1024x64.size inb_S1024x64_S1024x64_0_0).toLoadRect (harg3.unread x3) = x3 := load_whole _ x3 _
  have eP6 : k0_pay6 (View.readAt (Elt F) arg1.view (Rect.unit (s := S1024x64) ![0, 0] S1024x64.size inb_S1024x64_S1024x64_0_0).toLoadRect (harg1.unread x1))
      (View.readAt (Elt F) arg2.view (Rect.unit (s := S1024x64) ![0, 0] S1024x64.size inb_S1024x64_S1024x64_0_0).toLoadRect (harg2.unread x2))
      (View.readAt (Elt F) arg3.view (Rect.unit (s := S1024x64) ![0, 0] S1024x64.size inb_S1024x64_S1024x64_0_0).toLoadRect (harg3.unread x3)) = k0_pay6 x1 x2 x3 := by
    rw [e1, e2, e3]
  have eP7 : k0_pay7 (View.readAt (Elt F) arg1.view (Rect.unit (s := S1024x64) ![0, 0] S1024x64.size inb_S1024x64_S1024x64_0_0).toLoadRect (harg1.unread x1))
      (View.readAt (Elt F) arg2.view (Rect.unit (s := S1024x64) ![0, 0] S1024x64.size inb_S1024x64_S1024x64_0_0).toLoadRect (harg2.unread x2))
      (View.readAt (Elt F) arg3.view (Rect.unit (s := S1024x64) ![0, 0] S1024x64.size inb_S1024x64_S1024x64_0_0).toLoadRect (harg3.unread x3)) = k0_pay7 x1 x2 x3 := by
    rw [e1, e2, e3]
  have e14 : run_first.sl.v14 c arg1 harg1 arg2 harg2 arg3 harg3 x1 x2 x3 = k0_pay6 x1 x2 x3 := by
    refine (View.readCov_full scW.view inb_S512x128_S512x128_0_0 inb_S512x128_S512x128_0_0 _ _).trans ?_
    exact eP6
  have e35 : run_first.sl.v35 c t X = chunk X (bagNo (Ring.bk 8 t.val) 0) 0 := load_landed c X _ 0 0 _ 0 0 rfl (off_l00 t) _
  have e58 : run_first.sl.v58 c t X = chunk X (bagNo (Ring.bk 8 t.val) 0) 1 := load_landed c X _ 0 0 _ 1 1 rfl (off_l01 t) _
  have e81 : run_first.sl.v81 c t X = chunk X (bagNo (Ring.bk 8 t.val) 0) 2 := load_landed c X _ 0 1 _ 0 2 rfl (off_l02 t) _
  have e104 : run_first.sl.v104 c t X = chunk X (bagNo (Ring.bk 8 t.val) 0) 3 := load_landed c X _ 0 1 _ 1 3 rfl (off_l03 t) _
  have e160 : run_first.sl.v160 c t X = chunk X (bagNo (Ring.bk 8 t.val) 1) 0 := load_landed c X _ 1 0 _ 0 0 rfl (off_l10 t) _
  have e183 : run_first.sl.v183 c t X = chunk X (bagNo (Ring.bk 8 t.val) 1) 1 := load_landed c X _ 1 0 _ 1 1 rfl (off_l11 t) _
  have e206 : run_first.sl.v206 c t X = chunk X (bagNo (Ring.bk 8 t.val) 1) 2 := load_landed c X _ 1 1 _ 0 2 rfl (off_l12 t) _
  have e229 : run_first.sl.v229 c t X = chunk X (bagNo (Ring.bk 8 t.val) 1) 3 := load_landed c X _ 1 1 _ 1 3 rfl (off_l13 t) _
  have e126 : run_first.sl.v126 (F := F) c = k0_pay8 := View.readCov_full scU.view inb_S64x16_S64x16_0_0 inb_S64x16_S64x16_0_0 _ _
  have e251 : run_first.sl.v251 c t arg1 harg1 arg2 harg2 arg3 harg3 X x1 x2 x3 = bagA (BitVec.ofNat 32 (grid0.coords t 0).val) (k0_pay6 x1 x2 x3) (chunk X (bagNo (Ring.bk 8 t.val) 0) 0)
      (chunk X (bagNo (Ring.bk 8 t.val) 0) 1) (chunk X (bagNo (Ring.bk 8 t.val) 0) 2) (chunk X (bagNo (Ring.bk 8 t.val) 0) 3) k0_pay8 := by
    refine (View.readCov_full scU.view inb_S64x16_S64x16_0_0 inb_S64x16_S64x16_0_0 _ _).trans ?_
    simp only [e35, e58, e81, e104, e14, e126]
    rfl
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [HW]
  · iexists _; isplitr; swap; · iexact HW
    ipureintro
    refine (View.read_writes_full scW.view _ inb_S512x128_S512x128_0_0 _ _).trans ?_
    exact eP6
  isplitl [HB]
  · iexists _; isplitr; swap; · iexact HB
    ipureintro
    refine (View.read_writes_full scB.view _ inb_S64x1_S64x1_0_0 _ _).trans ?_
    exact eP7
  isplitl [HU]
  · iexists _; isplitr; swap; · iexact HU
    ipureintro
    refine (View.read_writes_full scU.view _ inb_S64x16_S64x16_0_0 _ _).trans ?_
    simp only [e160, e183, e206, e229, e251, e14]
    rfl
  isplitl [B00 V00 T00 R00 B01 V01 T01 R01 B10 V10 T10 R10 B11 V11 T11 R11]
  · isplitl [B00 V00 T00 R00]
    · isplitl [B00]; · iexact B00
      isplitl [V00]; · iexists _; iexact V00
      iapply (src_split c X (Ring.sl 2 t.val) 0 0 (Ring.bk 8 t.val)).2; isplitl [T00]; · iexact T00
      iexact R00
    isplitl [B01 V01 T01 R01]
    · isplitl [B01]; · iexact B01
      isplitl [V01]; · iexists _; iexact V01
      iapply (src_split c X (Ring.sl 2 t.val) 0 1 (Ring.bk 8 t.val)).2; isplitl [T01]; · iexact T01
      iexact R01
    isplitl [B10 V10 T10 R10]
    · isplitl [B10]; · iexact B10
      isplitl [V10]; · iexists _; iexact V10
      iapply (src_split c X (Ring.sl 2 t.val) 1 0 (Ring.bk 8 t.val)).2; isplitl [T10]; · iexact T10
      iexact R10
    isplitl [B11]; · iexact B11
    isplitl [V11]; · iexists _; iexact V11
    iapply (src_split c X (Ring.sl 2 t.val) 1 1 (Ring.bk 8 t.val)).2; isplitl [T11]; · iexact T11
    iexact R11
  isplitl [C00 N00 C01 N01 C10 N10 C11 N11]
  · isplitl [C00 N00]
    · isplitl [C00]; · iexists _; iexact C00
      iexact N00
    isplitl [C01 N01]
    · isplitl [C01]; · iexists _; iexact C01
      iexact N01
    isplitl [C10 N10]
    · isplitl [C10]; · iexists _; iexact C10
      iexact N10
    isplitl [C11]; · iexists _; iexact C11
    iexact N11
  iexists _; iexact HO

end Cert.KernelIdeal.Bag
-- ==== Proof.KernelIdeal.RunB.lean ====
/- A middle grid point's step (points 1 to 6): it starts the next block's copies, waits for its own block's, and adds its
   two bags' means to `u`. -/
module

public import proofs.«01_k».proof.Proof.KernelIdeal.Step

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in
/-- A middle point's step: from the weights `w`, the bag means `u` so far and its block in flight, it leaves the bag
    means `stepU X t w u`, its slot at rest and the next block in flight. -/
theorem run_mid (c : Dev nD) (t : Fin cfg0.N)
    (arg1 : Memref sig .tc .vmem S1024x64 .f32) (harg1 : arg1.IsWhole) (arg2 : Memref sig .tc .vmem S1024x64 .f32) (harg2 : arg2.IsWhole)
    (arg3 : Memref sig .tc .vmem S1024x64 .f32) (harg3 : arg3.IsWhole) (arg5 : Memref sig .tc .vmem S16x64 .f32) (harg5 : arg5.IsWhole)
    (hc0 : ¬isFirst (grid0.coords t)) (hc1 : hasNext (grid0.coords t)) (hc2 : ¬isLast (grid0.coords t))
    (X : HbBuf (F := F) c hbX) (w : Vec F S512x128 .f32) (u : Vec F S64x16 .f32) :
    ∀ (O : Waits sig Unit) (K : PUnit → sProp 𝕄),
      iprop(owns (c : Thread nD τ) scW fullShare w ∗ owns (c : Thread nD τ) scU fullShare u
          ∗ busySlot c X (Ring.sl 2 t.val) (Ring.bk 8 t.val) ∗ freeSlot c X (Ring.sl 2 (t.val + 1)) ∗ owes (c : Thread nD τ) 0 O
          ∗ (iprop(owns (c : Thread nD τ) scW fullShare w ∗ owns (c : Thread nD τ) scU fullShare (stepU X t w u)
              ∗ freeSlot c X (Ring.sl 2 t.val) ∗ busySlot c X (Ring.sl 2 (t.val + 1)) (Ring.bk 8 (t.val + 1))
              ∗ (∃ O', owes (c : Thread nD τ) 0 O')) -∗ K ⟨⟩))
        ⊢ wp frame (wpE (defs₀ (F := F)) Variants.none c none) Set.univ
            (cc0__mixmil_kernel (grid0.coords t) arg1 harg1 arg2 harg2 arg3 harg3 (Memref.whole main_arg0) (Memref.isWhole_whole _) arg5 harg5
              scW (Memref.isWhole_whole _) scB (Memref.isWhole_whole _) scU (Memref.isWhole_whole _) scX (Memref.isWhole_whole _) cc0_scratch4) K := by
  intro O K
  haveI : Fact (¬isFirst (grid0.coords t)) := ⟨hc0⟩
  haveI : Fact (hasNext (grid0.coords t)) := ⟨hc1⟩
  haveI : Fact (¬isLast (grid0.coords t)) := ⟨hc2⟩
  simp only [cc0__mixmil_kernel_eq_skeleton]; unfold cc0__mixmil_kernel_skel
  simp only [k0_part3_eq_skeleton, k0_part4_eq_skeleton, k0_part5_eq_skeleton, k0_part6_eq_skeleton, k0_part7_eq_skeleton, k0_part8_eq_skeleton]
  unfold k0_part3_skel k0_part4_skel k0_part5_skel k0_part6_skel k0_part7_skel k0_part8_skel
  simp only [k0_part1_eq_skeleton, k0_part2_eq_skeleton]
  unfold k0_part1_skel k0_part2_skel
  unfold owns busySlot freeSlot busyP freeP
  iintro ⟨⟨%fw, %hfw, HW⟩, ⟨%fu, %hfu, HU⟩, ⟨⟨⟨%f00, B00⟩, R00⟩, ⟨⟨%f01, B01⟩, R01⟩, ⟨⟨%f10, B10⟩, R10⟩, ⟨⟨%f11, B11⟩, R11⟩⟩, ⟨⟨C00, ⟨%g00, W00⟩, X00⟩, ⟨C01, ⟨%g01, W01⟩, X01⟩, ⟨C10, ⟨%g10, W10⟩, X10⟩, ⟨C11, ⟨%g11, W11⟩, X11⟩⟩, HO, Hk⟩
  obtain rfl := (Memref.isWhole_whole cc0_scratch0).eq_unread hfw
  obtain rfl := (Memref.isWhole_whole cc0_scratch2).eq_unread hfu
  ihave S00 := (src_split c X (Ring.sl 2 (t.val + 1)) 0 0 (Ring.bk 8 (t.val + 1))).1 $$ X00
  icases S00 with ⟨S00, N00⟩
  ihave S01 := (src_split c X (Ring.sl 2 (t.val + 1)) 0 1 (Ring.bk 8 (t.val + 1))).1 $$ X01
  icases S01 with ⟨S01, N01⟩
  ihave S10 := (src_split c X (Ring.sl 2 (t.val + 1)) 1 0 (Ring.bk 8 (t.val + 1))).1 $$ X10
  icases S10 with ⟨S10, N10⟩
  ihave S11 := (src_split c X (Ring.sl 2 (t.val + 1)) 1 1 (Ring.bk 8 (t.val + 1))).1 $$ X11
  icases S11 with ⟨S11, N11⟩
  sl_exec (disch := first | sl_exact hc0 | sl_exact hc1 | sl_exact hc2)
  sl_step
  iapply Hk
  isplitl [HW]
  · iexists _; isplitr; · ipureintro; exact (Memref.isWhole_whole cc0_scratch0).read_unread _
    iexact HW
  isplitl [HU]
  · iexists _; isplitr; swap; · iexact HU
    ipureintro
    have eW : View.readAt (Elt F) scW.view (Rect.unit (s := S512x128) ![0, 0] ![512, 128] inb_S512x128_S512x128_0_0).toLoadRect
        ((Memref.isWhole_whole cc0_scratch0).unread w) = w := load_whole _ w _
    have e35 : run_mid.sl.v35 c t X = chunk X (bagNo (Ring.bk 8 t.val) 0) 0 := load_landed c X _ 0 0 _ 0 0 rfl (off_l00 t) _
    have e58 : run_mid.sl.v58 c t X = chunk X (bagNo (Ring.bk 8 t.val) 0) 1 := load_landed c X _ 0 0 _ 1 1 rfl (off_l01 t) _
    have e81 : run_mid.sl.v81 c t X = chunk X (bagNo (Ring.bk 8 t.val) 0) 2 := load_landed c X _ 0 1 _ 0 2 rfl (off_l02 t) _
    have e104 : run_mid.sl.v104 c t X = chunk X (bagNo (Ring.bk 8 t.val) 0) 3 := load_landed c X _ 0 1 _ 1 3 rfl (off_l03 t) _
    have e160 : run_mid.sl.v160 c t X = chunk X (bagNo (Ring.bk 8 t.val) 1) 0 := load_landed c X _ 1 0 _ 0 0 rfl (off_l10 t) _
    have e183 : run_mid.sl.v183 c t X = chunk X (bagNo (Ring.bk 8 t.val) 1) 1 := load_landed c X _ 1 0 _ 1 1 rfl (off_l11 t) _
    have e206 : run_mid.sl.v206 c t X = chunk X (bagNo (Ring.bk 8 t.val) 1) 2 := load_landed c X _ 1 1 _ 0 2 rfl (off_l12 t) _
    have e229 : run_mid.sl.v229 c t X = chunk X (bagNo (Ring.bk 8 t.val) 1) 3 := load_landed c X _ 1 1 _ 1 3 rfl (off_l13 t) _
    have e251 : run_mid.sl.v251 c t X w u = bagA (BitVec.ofNat 32 (grid0.coords t 0).val) w (chunk X (bagNo (Ring.bk 8 t.val) 0) 0)
        (chunk X (bagNo (Ring.bk 8 t.val) 0) 1) (chunk X (bagNo (Ring.bk 8 t.val) 0) 2) (chunk X (bagNo (Ring.bk 8 t.val) 0) 3) u := by
      refine (View.readCov_full scU.view inb_S64x16_S64x16_0_0 inb_S64x16_S64x16_0_0 _ []).trans ?_
      simp only [e35, e58, e81, e104, eW]
      rw [show View.readAt (Elt F) scU.view (Rect.unit (s := S64x16) ![0, 0] ![64, 16] inb_S64x16_S64x16_0_0).toLoadRect
        ((Memref.isWhole_whole cc0_scratch2).unread u) = u from load_whole _ u _]
      rfl
    refine (View.read_writes_full scU.view _ inb_S64x16_S64x16_0_0 _ _).trans ?_
    simp only [e160, e183, e206, e229, e251, eW]
    rfl
  isplitl [B00 B00_dst B00_src R00 B01 B01_dst B01_src R01 B10 B10_dst B10_src R10 B11 B11_dst B11_src R11]
  · isplitl [B00 B00_dst B00_src R00]
    · isplitl [B00]; · iexact B00
      isplitl [B00_dst]; · iexists _; iexact B00_dst
      iapply (src_split c X (Ring.sl 2 t.val) 0 0 (Ring.bk 8 t.val)).2; isplitl [B00_src]; · iexact B00_src
      iexact R00
    isplitl [B01 B01_dst B01_src R01]
    · isplitl [B01]; · iexact B01
      isplitl [B01_dst]; · iexists _; iexact B01_dst
      iapply (src_split c X (Ring.sl 2 t.val) 0 1 (Ring.bk 8 t.val)).2; isplitl [B01_src]; · iexact B01_src
      iexact R01
    isplitl [B10 B10_dst B10_src R10]
    · isplitl [B10]; · iexact B10
      isplitl [B10_dst]; · iexists _; iexact B10_dst
      iapply (src_split c X (Ring.sl 2 t.val) 1 0 (Ring.bk 8 t.val)).2; isplitl [B10_src]; · iexact B10_src
      iexact R10
    isplitl [B11]; · iexact B11
    isplitl [B11_dst]; · iexists _; iexact B11_dst
    iapply (src_split c X (Ring.sl 2 t.val) 1 1 (Ring.bk 8 t.val)).2; isplitl [B11_src]; · iexact B11_src
    iexact R11
  isplitl [C00 N00 C01 N01 C10 N10 C11 N11]
  · isplitl [C00 N00]
    · isplitl [C00]; · iexists _; iexact C00
      iexact N00
    isplitl [C01 N01]
    · isplitl [C01]; · iexists _; iexact C01
      iexact N01
    isplitl [C10 N10]
    · isplitl [C10]; · iexists _; iexact C10
      iexact N10
    isplitl [C11]; · iexists _; iexact C11
    iexact N11
  iexists _; iexact HO

end Cert.KernelIdeal.Bag
-- ==== Proof.KernelIdeal.RunC.lean ====
/- The last grid point's step: no copy is left to start; it waits for its own block, adds its two bags' means to `u`, and
   writes the result from `u` and the norms. -/
module

public import proofs.«01_k».proof.Proof.KernelIdeal.Step

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in
/-- The last point's step: from the weights `w`, the norms `b`, the bag means `u` so far and its block in flight, it leaves
    in the output's staging buffer the result of the completed bag means, and its slot at rest. -/
theorem run_last (c : Dev nD) (t : Fin cfg0.N)
    (arg1 : Memref sig .tc .vmem S1024x64 .f32) (harg1 : arg1.IsWhole) (arg2 : Memref sig .tc .vmem S1024x64 .f32) (harg2 : arg2.IsWhole)
    (arg3 : Memref sig .tc .vmem S1024x64 .f32) (harg3 : arg3.IsWhole) (arg5 : Memref sig .tc .vmem S16x64 .f32) (harg5 : arg5.IsWhole)
    (hc0 : ¬isFirst (grid0.coords t)) (hc1 : ¬hasNext (grid0.coords t)) (hc2 : isLast (grid0.coords t))
    (X : HbBuf (F := F) c hbX) (w : Vec F S512x128 .f32) (b : Vec F S64x1 .f32) (u : Vec F S64x16 .f32) :
    ∀ (O : Waits sig Unit) (K : PUnit → sProp 𝕄),
      iprop((∃ d, owns (c : Thread nD τ) arg5 fullShare d)
          ∗ owns (c : Thread nD τ) scW fullShare w ∗ owns (c : Thread nD τ) scB fullShare b ∗ owns (c : Thread nD τ) scU fullShare u
          ∗ busySlot c X (Ring.sl 2 t.val) (Ring.bk 8 t.val) ∗ owes (c : Thread nD τ) 0 O
          ∗ (iprop(owns (c : Thread nD τ) arg5 fullShare (k0_pay2 (stepU X t w u) b)
              ∗ owns (c : Thread nD τ) scW fullShare w ∗ owns (c : Thread nD τ) scB fullShare b ∗ owns (c : Thread nD τ) scU fullShare (stepU X t w u)
              ∗ freeSlot c X (Ring.sl 2 t.val)
              ∗ (∃ O', owes (c : Thread nD τ) 0 O')) -∗ K ⟨⟩))
        ⊢ wp frame (wpE (defs₀ (F := F)) Variants.none c none) Set.univ
            (cc0__mixmil_kernel (grid0.coords t) arg1 harg1 arg2 harg2 arg3 harg3 (Memref.whole main_arg0) (Memref.isWhole_whole _) arg5 harg5
              scW (Memref.isWhole_whole _) scB (Memref.isWhole_whole _) scU (Memref.isWhole_whole _) scX (Memref.isWhole_whole _) cc0_scratch4) K := by
  intro O K
  haveI : Fact (¬isFirst (grid0.coords t)) := ⟨hc0⟩
  haveI : Fact (¬hasNext (grid0.coords t)) := ⟨hc1⟩
  haveI : Fact (isLast (grid0.coords t)) := ⟨hc2⟩
  simp only [cc0__mixmil_kernel_eq_skeleton]; unfold cc0__mixmil_kernel_skel
  simp only [k0_part3_eq_skeleton, k0_part4_eq_skeleton, k0_part5_eq_skeleton, k0_part6_eq_skeleton, k0_part7_eq_skeleton, k0_part8_eq_skeleton]
  unfold k0_part3_skel k0_part4_skel k0_part5_skel k0_part6_skel k0_part7_skel k0_part8_skel
  simp only [k0_part1_eq_skeleton, k0_part2_eq_skeleton]
  unfold k0_part1_skel k0_part2_skel
  unfold owns busySlot freeSlot busyP freeP
  iintro ⟨⟨%d5, %f5, -, H5⟩, ⟨%fw, %hfw, HW⟩, ⟨%fb, %hfb, HB⟩, ⟨%fu, %hfu, HU⟩, ⟨⟨⟨%f00, B00⟩, R00⟩, ⟨⟨%f01, B01⟩, R01⟩, ⟨⟨%f10, B10⟩, R10⟩, ⟨⟨%f11, B11⟩, R11⟩⟩, HO, Hk⟩
  obtain rfl := (Memref.isWhole_whole cc0_scratch0).eq_unread hfw
  obtain rfl := (Memref.isWhole_whole cc0_scratch1).eq_unread hfb
  obtain rfl := (Memref.isWhole_whole cc0_scratch2).eq_unread hfu
  sl_exec (disch := first | sl_exact hc0 | sl_exact hc1 | sl_exact hc2)
  sl_step
  iapply Hk
  have eW : View.readAt (Elt F) scW.view (Rect.unit (s := S512x128) ![0, 0] ![512, 128] inb_S512x128_S512x128_0_0).toLoadRect
      ((Memref.isWhole_whole cc0_scratch0).unread w) = w := load_whole _ w _
  have e35 : run_last.sl.v35 c t X = chunk X (bagNo (Ring.bk 8 t.val) 0) 0 := load_landed c X _ 0 0 _ 0 0 rfl (off_l00 t) _
  have e58 : run_last.sl.v58 c t X = chunk X (bagNo (Ring.bk 8 t.val) 0) 1 := load_landed c X _ 0 0 _ 1 1 rfl (off_l01 t) _
  have e81 : run_last.sl.v81 c t X = chunk X (bagNo (Ring.bk 8 t.val) 0) 2 := load_landed c X _ 0 1 _ 0 2 rfl (off_l02 t) _
  have e104 : run_last.sl.v104 c t X = chunk X (bagNo (Ring.bk 8 t.val) 0) 3 := load_landed c X _ 0 1 _ 1 3 rfl (off_l03 t) _
  have e160 : run_last.sl.v160 c t X = chunk X (bagNo (Ring.bk 8 t.val) 1) 0 := load_landed c X _ 1 0 _ 0 0 rfl (off_l10 t) _
  have e183 : run_last.sl.v183 c t X = chunk X (bagNo (Ring.bk 8 t.val) 1) 1 := load_landed c X _ 1 0 _ 1 1 rfl (off_l11 t) _
  have e206 : run_last.sl.v206 c t X = chunk X (bagNo (Ring.bk 8 t.val) 1) 2 := load_landed c X _ 1 1 _ 0 2 rfl (off_l12 t) _
  have e229 : run_last.sl.v229 c t X = chunk X (bagNo (Ring.bk 8 t.val) 1) 3 := load_landed c X _ 1 1 _ 1 3 rfl (off_l13 t) _
  have e251 : run_last.sl.v251 c t X w u = bagA (BitVec.ofNat 32 (grid0.coords t 0).val) w (chunk X (bagNo (Ring.bk 8 t.val) 0) 0)
      (chunk X (bagNo (Ring.bk 8 t.val) 0) 1) (chunk X (bagNo (Ring.bk 8 t.val) 0) 2) (chunk X (bagNo (Ring.bk 8 t.val) 0) 3) u := by
    refine (View.readCov_full scU.view inb_S64x16_S64x16_0_0 inb_S64x16_S64x16_0_0 _ []).trans ?_
    simp only [e35, e58, e81, e104, eW]
    rw [show View.readAt (Elt F) scU.view (Rect.unit (s := S64x16) ![0, 0] ![64, 16] inb_S64x16_S64x16_0_0).toLoadRect
      ((Memref.isWhole_whole cc0_scratch2).unread u) = u from load_whole _ u _]
    rfl
  have eU : ∀ f, View.read (Elt F) scU.view (scU.view.writes (Elt F) f (run_last.sl.HU_2 c t X w u)) = stepU X t w u := fun f => by
    refine (View.read_writes_full scU.view _ inb_S64x16_S64x16_0_0 _ _).trans ?_
    simp only [e160, e183, e206, e229, e251, eW]
    rfl
  have e268 : run_last.sl.v268 c t X w u = stepU X t w u := by
    refine (View.readCov_full scU.view inb_S64x16_S64x16_0_0 inb_S64x16_S64x16_0_0 _ _).trans ?_
    simp only [e160, e183, e206, e229, e251, eW]
    rfl
  isplitl [H5]
  · iexists _; isplitr; swap; · iexact H5
    ipureintro
    refine (View.read_writes_full arg5.view _ inb_S16x64_S16x64_0_0 _ _).trans ?_
    exact congrArg₂ k0_pay2 e268 (load_whole (Memref.isWhole_whole cc0_scratch1) b inb_S64x1_S64x1_0_0)
  isplitl [HW]
  · iexists _; isplitr; · ipureintro; exact (Memref.isWhole_whole cc0_scratch0).read_unread _
    iexact HW
  isplitl [HB]
  · iexists _; isplitr; · ipureintro; exact (Memref.isWhole_whole cc0_scratch1).read_unread _
    iexact HB
  isplitl [HU]
  · iexists _; isplitr; swap; · iexact HU
    ipureintro
    exact eU _
  isplitl [B00 B00_dst B00_src R00 B01 B01_dst B01_src R01 B10 B10_dst B10_src R10 B11 B11_dst B11_src R11]
  · isplitl [B00 B00_dst B00_src R00]
    · isplitl [B00]; · iexact B00
      isplitl [B00_dst]; · iexists _; iexact B00_dst
      iapply (src_split c X (Ring.sl 2 t.val) 0 0 (Ring.bk 8 t.val)).2; isplitl [B00_src]; · iexact B00_src
      iexact R00
    isplitl [B01 B01_dst B01_src R01]
    · isplitl [B01]; · iexact B01
      isplitl [B01_dst]; · iexists _; iexact B01_dst
      iapply (src_split c X (Ring.sl 2 t.val) 0 1 (Ring.bk 8 t.val)).2; isplitl [B01_src]; · iexact B01_src
      iexact R01
    isplitl [B10 B10_dst B10_src R10]
    · isplitl [B10]; · iexact B10
      isplitl [B10_dst]; · iexists _; iexact B10_dst
      iapply (src_split c X (Ring.sl 2 t.val) 1 0 (Ring.bk 8 t.val)).2; isplitl [B10_src]; · iexact B10_src
      iexact R10
    isplitl [B11]; · iexact B11
    isplitl [B11_dst]; · iexists _; iexact B11_dst
    iapply (src_split c X (Ring.sl 2 t.val) 1 1 (Ring.bk 8 t.val)).2; isplitl [B11_src]; · iexact B11_src
    iexact R11
  iexists _; iexact HO

end Cert.KernelIdeal.Bag
-- ==== Proof.KernelIdeal.Slots.lean ====
/- The launch's pieces and the ring: the two-slot buffer is its eight windows and a spare part, the array `x` whole is its
   eight shares, and with the eight cells at zero they are two slots at rest. -/
module

public import proofs.«01_k».proof.Proof.KernelIdeal.Names

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The windows, pairwise disjoint -/

/-- A window's number: its slot, its bag, its half. -/
abbrev WinIx : Type := Fin 2 × Fin 2 × Fin 2

/-- The elements of a window, as a rectangle of the two-slot buffer. -/
abbrev winSet (i : WinIx) : Finset S2x2x2048x512.Idx :=
  (Rect.unit (s := S2x2x2048x512) ![i.1.val, i.2.1.val, 1024 * i.2.2.val, 0] S1x1x1024x512.size (inb_win i.1 i.2.1 i.2.2)).set

theorem winSet_eq (i : WinIx) : (win i.1 i.2.1 i.2.2).view.set = winSet i := by
  simp only [win, Memref.view_squeeze, View.set_reshape]; exact View.set_slice_whole _ _

/-- Distinct windows share no element. -/
theorem wins_disjoint (i i' : WinIx) (h : i ≠ i') : Disjoint (winSet i) (winSet i') :=
  Ring.boxes_disjoint (s := S2x2x2048x512) S1x1x1024x512.size
    (fun i : WinIx => (![i.1.val, i.2.1.val, 1024 * i.2.2.val, 0] : Fin 4 → Nat)) (fun i => inb_win i.1 i.2.1 i.2.2)
    (fun i : WinIx => (![i.1.val, i.2.1.val, i.2.2.val, 0] : Fin 4 → Nat))
    (fun i a => by fin_cases a <;> simp [Nat.mul_comm])
    (fun b : Fin 4 → ℕ => (Fin.ofNat 2 (b 0), Fin.ofNat 2 (b 1), Fin.ofNat 2 (b 2)))
    (by decide) i i' h

section InOut
variable (c : Dev nD) (X : HbBuf (F := F) c hbX)

theorem winP_eq (i : WinIx) (f : Buf (Elt F) ((c : Thread nD τ).loc cc0_scratch3)) :
    winP (F := F) c i.1 i.2.1 i.2.2 f = (((c : Thread nD τ).loc cc0_scratch3) ↦[winSet i]{fullShare} f : sProp 𝕄) := by
  unfold winP; rw [winSet_eq]; rfl

/-- The elements of the two-slot buffer outside every window, at anything. -/
def spareX : sProp 𝕄 :=
  iprop(∃ f : Buf (Elt F) ((c : Thread nD τ).loc cc0_scratch3), ((c : Thread nD τ).loc cc0_scratch3) ↦[Finset.univ \ Finset.univ.biUnion winSet]{fullShare} f)

/-- A slot's four windows at anything. -/
def slotWins (s : Fin 2) : sProp 𝕄 :=
  iprop((∃ f, winP (F := F) c s 0 0 f) ∗ (∃ f, winP (F := F) c s 0 1 f) ∗ (∃ f, winP (F := F) c s 1 0 f) ∗ (∃ f, winP (F := F) c s 1 1 f))

/-- The windows one by one. -/
theorem wins_eq :
    (bigSep Finset.univ (fun i : WinIx => iprop(∃ f : Buf (Elt F) ((c : Thread nD τ).loc cc0_scratch3), winP (F := F) c i.1 i.2.1 i.2.2 f)) : sProp 𝕄)
      = iprop((((∃ f, winP (F := F) c 0 0 0 f) ∗ (∃ f, winP (F := F) c 0 0 1 f)) ∗ (∃ f, winP (F := F) c 0 1 0 f) ∗ (∃ f, winP (F := F) c 0 1 1 f))
          ∗ ((∃ f, winP (F := F) c 1 0 0 f) ∗ (∃ f, winP (F := F) c 1 0 1 f)) ∗ (∃ f, winP (F := F) c 1 1 0 f) ∗ (∃ f, winP (F := F) c 1 1 1 f)) := by
  rw [BI.bigSep_univ_prod, Ring.bigSep_fin2, BI.bigSep_univ_prod, BI.bigSep_univ_prod]
  simp only [Ring.bigSep_fin2]
  rfl

set_option maxHeartbeats 1000000 in
/-- The two-slot buffer at anything is its windows at anything and the spare part; -/
theorem slots_in : iprop(∃ d, owns (c : Thread nD τ) scX fullShare d) ⊢ (iprop(slotWins (F := F) c 0 ∗ slotWins (F := F) c 1 ∗ spareX (F := F) c) : sProp 𝕄) := by
  simp only [owns_whole]
  iintro H
  ihave H' := (Ring.pieces_split_spare (U := Pipeline.UD sig nD τ) (ℓ := (c : Thread nD τ).loc cc0_scratch3) (q := fullShare) winSet wins_disjoint
    (fun i f => winP (F := F) c i.1 i.2.1 i.2.2 f) (winP_eq c)) $$ H
  icases H' with ⟨HW, HS⟩
  ihave HW' := (Entails.of_eq (wins_eq (F := F) c)) $$ HW
  icases HW' with ⟨⟨⟨H000, H001⟩, H010, H011⟩, ⟨H100, H101⟩, H110, H111⟩
  unfold slotWins spareX
  isplitl [H000 H001 H010 H011]
  · isplitl [H000]; · iexact H000
    isplitl [H001]; · iexact H001
    isplitl [H010]; · iexact H010
    iexact H011
  isplitl [H100 H101 H110 H111]
  · isplitl [H100]; · iexact H100
    isplitl [H101]; · iexact H101
    isplitl [H110]; · iexact H110
    iexact H111
  iexact HS

set_option maxHeartbeats 1000000 in
/-- and back. -/
theorem slots_out : (iprop(slotWins (F := F) c 0 ∗ slotWins (F := F) c 1 ∗ spareX (F := F) c) : sProp 𝕄) ⊢ iprop(∃ d, owns (c : Thread nD τ) scX fullShare d) := by
  simp only [owns_whole]
  unfold slotWins spareX
  iintro ⟨⟨H000, H001, H010, H011⟩, ⟨H100, H101, H110, H111⟩, HS⟩
  iapply (Ring.pieces_join_spare (U := Pipeline.UD sig nD τ) (ℓ := (c : Thread nD τ).loc cc0_scratch3) (q := fullShare) winSet wins_disjoint
    (fun i f => winP (F := F) c i.1 i.2.1 i.2.2 f) (winP_eq c))
  isplitr [HS]
  · iapply (Entails.of_eq (wins_eq (F := F) c).symm)
    isplitl [H000 H001 H010 H011]
    · isplitl [H000 H001]
      · isplitl [H000]; · iexact H000
        iexact H001
      isplitl [H010]; · iexact H010
      iexact H011
    isplitl [H100 H101]
    · isplitl [H100]; · iexact H100
      iexact H101
    isplitl [H110]; · iexact H110
    iexact H111
  iexact HS

/-! ## The shares of `x` -/

/-- `x` held at a share is `x` held at the share's two halves. -/
theorem share_halves (q : PosShare TreeShare) :
    (((c : Thread nD τ).loc main_arg0) ↦[Finset.univ]{q} X : sProp 𝕄)
      ⊣⊢ iprop((((c : Thread nD τ).loc main_arg0) ↦[Finset.univ]{half 0 q} X) ∗ ((c : Thread nD τ).loc main_arg0) ↦[Finset.univ]{half 1 q} X) :=
  pointsTo_share (PosShare.mem_left_op_right q)

/-- A slot's half of `x` is the four shares of its parts. -/
def slotShares (s : Fin 2) : sProp 𝕄 := iprop(wholeP (F := F) c X s 0 0 ∗ wholeP (F := F) c X s 0 1 ∗ wholeP (F := F) c X s 1 0 ∗ wholeP (F := F) c X s 1 1)

theorem slot_share_in (s : Fin 2) : (((c : Thread nD τ).loc main_arg0) ↦[Finset.univ]{half s fullShare} X : sProp 𝕄) ⊢ slotShares c X s := by
  unfold slotShares
  iintro H
  ihave H' := (share_halves c X (half s fullShare)).1 $$ H
  icases H' with ⟨H0, H1⟩
  ihave H0' := (share_halves c X (half 0 (half s fullShare))).1 $$ H0
  icases H0' with ⟨H00, H01⟩
  ihave H1' := (share_halves c X (half 1 (half s fullShare))).1 $$ H1
  icases H1' with ⟨H10, H11⟩
  isplitl [H00]; · iexact H00
  isplitl [H01]; · iexact H01
  isplitl [H10]; · iexact H10
  iexact H11

theorem slot_share_out (s : Fin 2) : (slotShares c X s : sProp 𝕄) ⊢ (((c : Thread nD τ).loc main_arg0) ↦[Finset.univ]{half s fullShare} X : sProp 𝕄) := by
  unfold slotShares
  iintro ⟨H00, H01, H10, H11⟩
  iapply (share_halves c X (half s fullShare)).2
  isplitl [H00 H01]
  · iapply (share_halves c X (half 0 (half s fullShare))).2
    isplitl [H00]; · iexact H00
    iexact H01
  iapply (share_halves c X (half 1 (half s fullShare))).2
  isplitl [H10]; · iexact H10
  iexact H11

/-! ## The slots at rest -/

/-- A slot's four cells at zero. -/
def slotCells (s : Fin 2) : sProp 𝕄 := iprop(cellP (F := F) c s 0 0 ∗ cellP (F := F) c s 0 1 ∗ cellP (F := F) c s 1 0 ∗ cellP (F := F) c s 1 1)

/-- A slot's cells at zero, its windows at anything and its shares of `x` are the slot at rest; -/
theorem slot_in (s : Fin 2) : (iprop(slotCells (F := F) c s ∗ slotWins (F := F) c s ∗ slotShares c X s) : sProp 𝕄) ⊢ freeSlot c X s := by
  unfold slotCells slotWins slotShares freeSlot freeP
  iintro ⟨⟨C00, C01, C10, C11⟩, ⟨W00, W01, W10, W11⟩, X00, X01, X10, X11⟩
  isplitl [C00 W00 X00]
  · isplitl [C00]; · iexact C00
    isplitl [W00]; · iexact W00
    iexact X00
  isplitl [C01 W01 X01]
  · isplitl [C01]; · iexact C01
    isplitl [W01]; · iexact W01
    iexact X01
  isplitl [C10 W10 X10]
  · isplitl [C10]; · iexact C10
    isplitl [W10]; · iexact W10
    iexact X10
  isplitl [C11]; · iexact C11
  isplitl [W11]; · iexact W11
  iexact X11

/-- and back. -/
theorem slot_out (s : Fin 2) : (freeSlot c X s : sProp 𝕄) ⊢ iprop(slotCells (F := F) c s ∗ slotWins (F := F) c s ∗ slotShares c X s) := by
  unfold slotCells slotWins slotShares freeSlot freeP
  iintro ⟨⟨C00, W00, X00⟩, ⟨C01, W01, X01⟩, ⟨C10, W10, X10⟩, C11, W11, X11⟩
  isplitl [C00 C01 C10 C11]
  · isplitl [C00]; · iexact C00
    isplitl [C01]; · iexact C01
    isplitl [C10]; · iexact C10
    iexact C11
  isplitl [W00 W01 W10 W11]
  · isplitl [W00]; · iexact W00
    isplitl [W01]; · iexact W01
    isplitl [W10]; · iexact W10
    iexact W11
  isplitl [X00]; · iexact X00
  isplitl [X01]; · iexact X01
  isplitl [X10]; · iexact X10
  iexact X11

/-- Slot 0's cells, named by their numbers; -/
theorem cells0_eq :
    slotCells (F := F) c 0 = iprop(semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0) := by
  unfold slotCells cellP; rw [cellR_000, cellR_001, cellR_010, cellR_011]

/-- slot 1's. -/
theorem cells1_eq :
    slotCells (F := F) c 1 = iprop(semVal ((c : Thread nD τ), SemLoc.dma 8) 0 ∗ semVal ((c : Thread nD τ), SemLoc.dma 9) 0
      ∗ semVal ((c : Thread nD τ), SemLoc.dma 10) 0 ∗ semVal ((c : Thread nD τ), SemLoc.dma 11) 0) := by
  unfold slotCells cellP; rw [cellR_100, cellR_101, cellR_110, cellR_111]

/-- INTO THE RING: the two-slot buffer at anything, the cells at zero and `x` whole are two slots at rest; -/
theorem ring_in :
    iprop((∃ d, owns (c : Thread nD τ) scX fullShare d)
        ∗ Pipeline.ownSems0 (Ix := Unit) (Name := ℕ) (U := Pipeline.UD sig nD τ) (Lvl := ℕ) (Val := Elt F) (τ := τ) osem c ∗ hbPt c hbX X)
      ⊢ (iprop(freeSlot c X 0 ∗ freeSlot c X 1 ∗ spareX (F := F) c) : sProp 𝕄) := by
  rw [ownSems_eq]
  iintro ⟨HS, ⟨C4, C5, C6, C7, C8, C9, C10, C11⟩, HX⟩
  ihave HS' := (slots_in (F := F) c) $$ HS
  icases HS' with ⟨W0, W1, HS⟩
  ihave HX' := (share_halves c X fullShare).1 $$ HX
  icases HX' with ⟨X0, X1⟩
  ihave X0' := (slot_share_in c X 0) $$ X0
  ihave X1' := (slot_share_in c X 1) $$ X1
  isplitl [C4 C5 C6 C7 W0 X0']
  · iapply (slot_in c X 0)
    isplitl [C4 C5 C6 C7]
    · iapply (Entails.of_eq (cells0_eq (F := F) c).symm)
      isplitl [C4]; · iexact C4
      isplitl [C5]; · iexact C5
      isplitl [C6]; · iexact C6
      iexact C7
    isplitl [W0]; · iexact W0
    iexact X0'
  isplitl [C8 C9 C10 C11 W1 X1']
  · iapply (slot_in c X 1)
    isplitl [C8 C9 C10 C11]
    · iapply (Entails.of_eq (cells1_eq (F := F) c).symm)
      isplitl [C8]; · iexact C8
      isplitl [C9]; · iexact C9
      isplitl [C10]; · iexact C10
      iexact C11
    isplitl [W1]; · iexact W1
    iexact X1'
  iexact HS

/-- OUT OF THE RING: and back. -/
theorem ring_out :
    (iprop(freeSlot c X 0 ∗ freeSlot c X 1 ∗ spareX (F := F) c) : sProp 𝕄)
      ⊢ iprop((∃ d, owns (c : Thread nD τ) scX fullShare d)
        ∗ Pipeline.ownSems0 (Ix := Unit) (Name := ℕ) (U := Pipeline.UD sig nD τ) (Lvl := ℕ) (Val := Elt F) (τ := τ) osem c ∗ hbPt c hbX X) := by
  rw [ownSems_eq]
  iintro ⟨H0, H1, HS⟩
  ihave H0' := (slot_out c X 0) $$ H0
  icases H0' with ⟨C0, W0, X0⟩
  ihave H1' := (slot_out c X 1) $$ H1
  icases H1' with ⟨C1, W1, X1⟩
  isplitl [W0 W1 HS]
  · iapply (slots_out (F := F) c)
    isplitl [W0]; · iexact W0
    isplitl [W1]; · iexact W1
    iexact HS
  isplitl [C0 C1]
  · ihave C0' := (Entails.of_eq (cells0_eq (F := F) c)) $$ C0
    ihave C1' := (Entails.of_eq (cells1_eq (F := F) c)) $$ C1
    icases C0' with ⟨C4, C5, C6, C7⟩
    icases C1' with ⟨C8, C9, C10, C11⟩
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  iapply (share_halves c X fullShare).2
  isplitl [X0]
  · iapply (slot_share_out c X 0); iexact X0
  iapply (slot_share_out c X 1); iexact X1

end InOut

end Cert.KernelIdeal.Bag
-- ==== Proof.KernelIdeal.Body.lean ====
/- What the grid leaves point by point, the region's invariant, and the body obligation at every point. -/
module

public import proofs.«01_k».proof.Proof.KernelIdeal.RunA
public import proofs.«01_k».proof.Proof.KernelIdeal.RunB
public import proofs.«01_k».proof.Proof.KernelIdeal.RunC
public import proofs.«01_k».proof.Proof.KernelIdeal.Slots

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the grid leaves, point by point -/

/-- `x` as the region finds it. -/
def xs (c : Dev nD) : HbBuf (F := F) c hbX := V m c main_arg0
/-- The weights the first point prepares: 64 columns for the attention scores, then 64 for the values. -/
def weights (c : Dev nD) : Vec F S512x128 .f32 := k0_pay6 (iblk m c 0 t0_0) (iblk m c 1 t0_0) (iblk m c 2 t0_0)
/-- The norms the first point prepares. -/
def norms (c : Dev nD) : Vec F S64x1 .f32 := k0_pay7 (iblk m c 0 t0_0) (iblk m c 1 t0_0) (iblk m c 2 t0_0)
/-- The bag means before point `n`: nothing at first, then one step more per point. -/
def means (c : Dev nD) : ℕ → Vec F S64x16 .f32
  | 0 => k0_pay8
  | n + 1 => if h : n < cfg0.N then stepU (xs m c) ⟨n, h⟩ (weights m c) (means c n) else means c n

theorem means_succ (c : Dev nD) (t : Fin cfg0.N) : means m c (t.val + 1) = stepU (xs m c) t (weights m c) (means m c t.val) :=
  dif_pos t.isLt

/-! ## The invariant -/

/-- The scratch before point `k`: at anything before the first; then the weights, the norms, the means so far. -/
def scratchAt (c : Dev nD) (k : ℕ) : sProp 𝕄 :=
  if k = 0 then iprop((∃ d, owns (c : Thread nD τ) scW fullShare d) ∗ (∃ d, owns (c : Thread nD τ) scB fullShare d) ∗ (∃ d, owns (c : Thread nD τ) scU fullShare d))
  else iprop(owns (c : Thread nD τ) scW fullShare (weights m c) ∗ owns (c : Thread nD τ) scB fullShare (norms m c) ∗ owns (c : Thread nD τ) scU fullShare (means m c k))
/-- The ring before point `k`: both slots at rest before the first and after the last; between, the point's own block in
    flight into its slot, the other slot at rest. -/
def ringAt (c : Dev nD) (k : ℕ) : sProp 𝕄 :=
  if k = 0 ∨ k = 8 then iprop(freeSlot c (xs m c) 0 ∗ freeSlot c (xs m c) 1)
  else iprop(busySlot c (xs m c) (Ring.sl 2 k) (Ring.bk 8 k) ∗ freeSlot c (xs m c) (Ring.sl 2 (k + 1)))
/-- The region invariant before point `k`. -/
def PhiR (c : Dev nD) (k : ℕ) : sProp 𝕄 := iprop((∃ r, prngReg c r) ∗ scratchAt m c k ∗ ringAt m c k ∗ spareX (F := F) c)

/-- The pipeline's proof data on core `c`: each input's buffer keeps its block; the output's buffer, where the body
    writes it, holds the result of all sixteen bags' means. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (means m c 8) (norms m c)
  Φ t := PhiR m c t.val
  q _ := fullShare
  owed _ := 0

theorem A_eq (c : Dev nD) (w : Fin cfg0.W) : (dats m 0 c).A w = V m c (Pipeline.arrRef spec0 w) := by dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (means m c 8) (norms m c) := by dsimp only [dats]

/-- An input's staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation -/

/-- What the body is called with at point `t`; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- Before the last point the output's buffer is left as it was found; -/
theorem leaves_early (c : Dev nD) (t : Fin cfg0.N) (h : ¬isLast (grid0.coords t)) :
    (dats m 0 c).leavesExact 3 t = iprop(∃ d, owns (c : Thread nD τ) (st0_3 t) fullShare ((dats m 0 c).before 3 t d)) := by
  refine Dat.leavesExact_idle _ 3 t ?_ ?_
  · show (!(k0_cond4 (grid0.coords t) == 1#1)) = true
    simpa using h
  · have := (flush0_3 t).not.mpr
    have h7 := (isLast_iff t).not.mp h
    have hN : t.val < 8 := lt_of_lt_of_eq t.isLt (show cfg0.N = 8 from N_0)
    simpa using this (by omega)

/-- at the last point it holds the result. -/
theorem leaves_last (c : Dev nD) (t : Fin cfg0.N) (h : isLast (grid0.coords t)) :
    (dats m 0 c).leavesExact 3 t = owns (c : Thread nD τ) (st0_3 t) fullShare (k0_pay2 (means m c 8) (norms m c)) := by
  have hi : cfg0.idle 3 (cfg0.grid.coords t) = false := by
    show (!(k0_cond4 (grid0.coords t) == 1#1)) = false
    simpa using h
  unfold Dat.leavesExact; rw [hi, after3]

set_option maxHeartbeats 1200000 in
/-- The body at any point: from the invariant before it and its windows' buffers, to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [after0, after1, after2, PhiR_castSucc m c t, PhiR_succ m c t]
  unfold Dat.owesAt Pipeline.owesWithin
  rw [show (dats m 0 c).owed t.castSucc = 0 from rfl, show (dats m 0 c).owed t.succ = 0 from rfl]
  unfold PhiR scratchAt ringAt
  have hN : t.val < 8 := lt_of_lt_of_eq t.isLt (show cfg0.N = 8 from N_0)
  rw [if_neg (show ¬t.val + 1 = 0 by omega)]
  by_cases h0 : t.val = 0
  · obtain rfl : t = t0_0 := Fin.ext h0
    have hc0 := (isFirst_iff t0_0).mpr h0
    have hc1 := (hasNext_iff t0_0).mpr (by rw [h0]; decide)
    have hc2 := (isLast_iff t0_0).not.mpr (by rw [h0]; decide)
    rw [if_pos h0, if_pos (Or.inl h0), if_neg (show ¬(t0_0.val + 1 = 0 ∨ t0_0.val + 1 = 8) by rw [h0]; decide), leaves_early m c t0_0 hc2, means_succ]
    iintro ⟨⟨Hg, ⟨HW, HB, HU⟩, ⟨HF0, HF1⟩, HS⟩, ⟨%O, -, HO⟩, ⟨%d0, H0⟩, ⟨%d1, H1⟩, ⟨%d2, H2⟩, H3⟩
    iapply (run_first c t0_0 _ _ _ _ _ _ _ _ hc0 hc1 hc2 (xs m c) (iblk m c 0 t0_0) (iblk m c 1 t0_0) (iblk m c 2 t0_0) O _)
    isplitl [H0]; · iexact H0
    isplitl [H1]; · iexact H1
    isplitl [H2]; · iexact H2
    isplitl [HW]; · iexact HW
    isplitl [HB]; · iexact HB
    isplitl [HU]; · iexact HU
    isplitl [HF0]; · iexact HF0
    isplitl [HF1]; · iexact HF1
    isplitl [HO]; · iexact HO
    iintro ⟨H0, H1, H2, HW, HB, HU, HF, HY, ⟨%O', HO⟩⟩
    isplitl [Hg HW HB HU HF HY HS]
    · isplitl [Hg]; · iexact Hg
      isplitl [HW HB HU]
      · isplitl [HW]; · iexact HW
        isplitl [HB]; · iexact HB
        iexact HU
      isplitl [HF HY]
      · isplitl [HY]; · iexact HY
        iexact HF
      iexact HS
    isplitl [HO]
    · iexists O'; isplitr; · ipureintro; exact fun _ _ => Or.inl trivial
      iexact HO
    isplitl [H0]; · iexact H0
    isplitl [H1]; · iexact H1
    isplitl [H2]; · iexact H2
    iexact H3
  · have hc0 := (isFirst_iff t).not.mpr h0
    rw [if_neg h0, if_neg (show ¬(t.val = 0 ∨ t.val = 8) by omega), means_succ]
    by_cases h1 : t.val < 7
    · have hc1 := (hasNext_iff t).mpr h1
      have hc2 := (isLast_iff t).not.mpr (by omega)
      rw [if_neg (show ¬(t.val + 1 = 0 ∨ t.val + 1 = 8) by omega), leaves_early m c t hc2]
      iintro ⟨⟨Hg, ⟨HW, HB, HU⟩, ⟨HY, HF⟩, HS⟩, ⟨%O, -, HO⟩, ⟨%d0, H0⟩, ⟨%d1, H1⟩, ⟨%d2, H2⟩, H3⟩
      iapply (run_mid c t _ _ _ _ _ _ _ _ hc0 hc1 hc2 (xs m c) (weights m c) (means m c t.val) O _)
      isplitl [HW]; · iexact HW
      isplitl [HU]; · iexact HU
      isplitl [HY]; · iexact HY
      isplitl [HF]; · iexact HF
      isplitl [HO]; · iexact HO
      iintro ⟨HW, HU, HF, HY, ⟨%O', HO⟩⟩
      isplitl [Hg HW HB HU HF HY HS]
      · isplitl [Hg]; · iexact Hg
        isplitl [HW HB HU]
        · isplitl [HW]; · iexact HW
          isplitl [HB]; · iexact HB
          iexact HU
        isplitl [HF HY]
        · isplitl [HY]; · iexact HY
          rw [Ring.sl_add 2 t.val]
          iexact HF
        iexact HS
      isplitl [HO]
      · iexists O'; isplitr; · ipureintro; exact fun _ _ => Or.inl trivial
        iexact HO
      isplitl [H0]; · iexact H0
      isplitl [H1]; · iexact H1
      isplitl [H2]; · iexact H2
      iexact H3
    · have h7 : t.val = 7 := by omega
      obtain rfl : t = t0_7 := Fin.ext h7
      have hc1 := (hasNext_iff t0_7).not.mpr h1
      have hc2 := (isLast_iff t0_7).mpr h7
      have e8 : means m c 8 = stepU (xs m c) t0_7 (weights m c) (means m c t0_7.val) := means_succ m c t0_7
      rw [if_pos (show t0_7.val + 1 = 0 ∨ t0_7.val + 1 = 8 by rw [h7]; decide), leaves_last m c t0_7 hc2, e8]
      iintro ⟨⟨Hg, ⟨HW, HB, HU⟩, ⟨HY, HF⟩, HS⟩, ⟨%O, -, HO⟩, ⟨%d0, H0⟩, ⟨%d1, H1⟩, ⟨%d2, H2⟩, ⟨%d3, H3⟩⟩
      iapply (run_last c t0_7 _ _ _ _ _ _ _ _ hc0 hc1 hc2 (xs m c) (weights m c) (norms m c) (means m c t0_7.val) O _)
      isplitl [H3]; · iexists _; iexact H3
      isplitl [HW]; · iexact HW
      isplitl [HB]; · iexact HB
      isplitl [HU]; · iexact HU
      isplitl [HY]; · iexact HY
      isplitl [HO]; · iexact HO
      iintro ⟨H3, HW, HB, HU, HY, ⟨%O', HO⟩⟩
      isplitl [Hg HW HB HU HF HY HS]
      · isplitl [Hg]; · iexact Hg
        isplitl [HW HB HU]
        · isplitl [HW]; · iexact HW
          isplitl [HB]; · iexact HB
          iexact HU
        isplitl [HF HY]
        · isplitl [HF]; · iexact HF
          iexact HY
        iexact HS
      isplitl [HO]
      · iexists O'; isplitr; · ipureintro; exact fun _ _ => Or.inl trivial
        iexact HO
      isplitl [H0]; · iexact H0
      isplitl [H1]; · iexact H1
      isplitl [H2]; · iexact H2
      iexact H3

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Bag
-- ==== Proof.KernelIdeal.Launch.lean ====
/- The launch: what the region takes and gives back, the whole run of the program, and its frame. -/
module

public import proofs.«01_k».proof.Proof.KernelIdeal.Body
public import Idealize.ShloMosaic.Lib.Claim

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The array the kernel copies from, at the contents the region finds. -/
theorem hbmPts_eq (c : Dev nD) :
    (bigSep H0 (fun b => ((c : Thread nD τ).loc b) ↦{fullShare} V m c b) : sProp 𝕄) = iprop(hbPt c hbX (xs m c)) := by
  rw [BI.bigSep_eq_bigSepL_of_eq [main_arg0] (by decide) (by decide)]; rfl

/-- What the launch hands the region, part by part. -/
theorem PhiD_eq (c : Dev nD) :
    (Pipeline.ΦD osem spec0 H0 (V m) c : sProp 𝕄)
      = iprop(iprop((∃ d, owns (c : Thread nD τ) scW fullShare d) ∗ (∃ d, owns (c : Thread nD τ) scB fullShare d)
            ∗ (∃ d, owns (c : Thread nD τ) scU fullShare d) ∗ (∃ d, owns (c : Thread nD τ) scX fullShare d))
          ∗ (∃ r, prngReg c r) ∗ Pipeline.ownSems0 osem c ∗ iprop(hbPt c hbX (xs m c))) := by
  rw [Pipeline.ΦD_eq, scopedRest0_eq, hbmPts_eq]; simp only [owns_whole]; try rfl

/-- The launch's pieces are the invariant before the first point; -/
theorem hin (c : Dev nD) : Pipeline.ΦD osem spec0 H0 (V m) c ⊢ (dats m 0 c).Φ 0 := by
  rw [PhiD_eq, show (dats m 0 c).Φ 0 = PhiR m c 0 from rfl]
  unfold PhiR scratchAt ringAt
  rw [if_pos rfl, if_pos (Or.inl rfl)]
  iintro ⟨⟨HW, HB, HU, HX⟩, Hg, HC, HH⟩
  ihave HR := (ring_in (F := F) c (xs m c)) $$ [HX HC HH]
  · isplitl [HX]; · iexact HX
    isplitl [HC]; · iexact HC
    iexact HH
  icases HR with ⟨H0, H1, HS⟩
  isplitl [Hg]; · iexact Hg
  isplitl [HW HB HU]
  · isplitl [HW]; · iexact HW
    isplitl [HB]; · iexact HB
    iexact HU
  isplitl [H0 H1]
  · isplitl [H0]; · iexact H0
    iexact H1
  iexact HS

/-- and the invariant after the last point gives them back. -/
theorem hout (c : Dev nD) : (dats m 0 c).Φ (Fin.last cfg0.N) ⊢ Pipeline.ΦD osem spec0 H0 (V m) c := by
  rw [PhiD_eq, show (dats m 0 c).Φ (Fin.last cfg0.N) = PhiR m c grid0.N from rfl]
  unfold PhiR scratchAt ringAt
  rw [show grid0.N = 8 from N_0, if_neg (by decide), if_pos (Or.inr rfl)]
  iintro ⟨Hg, ⟨HW, HB, HU⟩, ⟨H0, H1⟩, HS⟩
  ihave HR := (ring_out (F := F) c (xs m c)) $$ [H0 H1 HS]
  · isplitl [H0]; · iexact H0
    isplitl [H1]; · iexact H1
    iexact HS
  icases HR with ⟨HX, HC, HH⟩
  isplitl [HW HB HU HX]
  · isplitl [HW]; · iexists _; iexact HW
    isplitl [HB]; · iexists _; iexact HB
    isplitl [HU]; · iexists _; iexact HU
    iexact HX
  isplitl [Hg]; · iexact Hg
  isplitl [HC]; · iexact HC
  iexact HH

/-! ## The program around the region -/

/-- The program reduces to its region between the lines before it and the line after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region touches neither `x` nor a scoped buffer. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  simp only [hostOps1, List.mem_cons, List.mem_nil_iff, or_false] at hop
  rcases hop with rfl
  intro b hb
  obtain rfl := Finset.mem_singleton.mp hb
  simp only [StableHlo.reshape_bufs, Finset.mem_insert, Finset.mem_singleton, not_or]
  exact ⟨StableHlo.devRef_ne_of_ne (by decide), StableHlo.devRef_ne_of_ne (by decide)⟩

/-- A buffer that is no window's array, and that the line after the region does not write, ends as the region found it. -/
theorem tail_keeps (c : Dev nD) (b : Ref sig .tc) (h : Proc.devRef .tc b ≠ (Proc.devRef .tc main_v6 : DevRef τ sig)) (hb : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact h)),
    Pipeline.withArrays_of_ne _ c (V0 m c) _ b hb]

/-- The line after the region does not write `main_arg0`: it ends as launched. -/
theorem W_arg0 (c : Dev nD) : Pipeline.afterTail₀ cfgs (dats m) 0 (V0 m) [hostOps1] c main_arg0 = m ((c : Thread nD τ).loc main_arg0) :=
  (tail_keeps m c main_arg0 (StableHlo.devRef_ne_of_ne (by decide)) (by exact (by decide : ∀ w, Pipeline.arrRef spec0 w ≠ main_arg0))).trans (V_main_arg0 m c)
/-- The line after the region does not write `main_arg1`: it ends as launched. -/
theorem W_arg1 (c : Dev nD) : Pipeline.afterTail₀ cfgs (dats m) 0 (V0 m) [hostOps1] c main_arg1 = m ((c : Thread nD τ).loc main_arg1) :=
  (tail_keeps m c main_arg1 (StableHlo.devRef_ne_of_ne (by decide)) (by exact (by decide : ∀ w, Pipeline.arrRef spec0 w ≠ main_arg1))).trans (V_main_arg1 m c)
/-- The line after the region does not write `main_arg2`: it ends as launched. -/
theorem W_arg2 (c : Dev nD) : Pipeline.afterTail₀ cfgs (dats m) 0 (V0 m) [hostOps1] c main_arg2 = m ((c : Thread nD τ).loc main_arg2) :=
  (tail_keeps m c main_arg2 (StableHlo.devRef_ne_of_ne (by decide)) (by exact (by decide : ∀ w, Pipeline.arrRef spec0 w ≠ main_arg2))).trans (V_main_arg2 m c)
/-- The line after the region does not write `main_arg3`: it ends as launched. -/
theorem W_arg3 (c : Dev nD) : Pipeline.afterTail₀ cfgs (dats m) 0 (V0 m) [hostOps1] c main_arg3 = m ((c : Thread nD τ).loc main_arg3) :=
  (tail_keeps m c main_arg3 (StableHlo.devRef_ne_of_ne (by decide)) (by exact (by decide : ∀ w, Pipeline.arrRef spec0 w ≠ main_arg3))).trans (V_main_arg3 m c)

/-! ## The run -/

set_option backward.isDefEq.respectTransparency.types false in
/-- THE RUN: every execution ends with the pipeline's arrays at what its points left, every other buffer as the lines
    around the region leave it, and every semaphore at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain m Variants.none) (hA := A_eq m) (hin := hin m) (hout := hout m)

/-- THE FRAME: every execution ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (W_arg0 m c),
     ((h.1 c).2 main_arg1 (Pipeline.mem_restRefs_of main_arg1 (by decide) (by decide))).trans (W_arg1 m c),
     ((h.1 c).2 main_arg2 (Pipeline.mem_restRefs_of main_arg2 (by decide) (by decide))).trans (W_arg2 m c),
     ((h.1 c).2 main_arg3 (Pipeline.mem_restRefs_of main_arg3 (by decide) (by decide))).trans (W_arg3 m c)⟩, h.2⟩) (run_main m ρ)

end Cert.KernelIdeal.Bag
-- ==== Proof.KernelFrame.lean ====
/- The frame of the program as printed, at the machine's own floating point: no rewrite was made in idealizing it, so its
   text is the idealized program's, which was proved to run at any floating point. -/
module

public import proofs.«01_k».proof.Proof.KernelIdeal.Launch
public import proofs.«01_k».proof.Kernel
public import Idealize.ShloMosaic.PureOps.BitExact

@[expose] public section

set_option maxRecDepth 16384

noncomputable section

namespace Cert.Kernel.Bag

open Cert.Kernel
open Idealize.ShloMosaic Idealize.SL.Sem

variable [Cert.Kernel.Facts]

/-- The two programs' kernels are one text, part by part; -/
theorem body_eq : @Cert.Kernel.cc0__mixmil_kernel Bits _ _ = @Cert.KernelIdeal.cc0__mixmil_kernel Bits _ _ := rfl

/-- so are their body tables, -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- their tables with the pipeline's, -/
theorem defs_eq : Cert.Kernel.defs (F := Bits) = Cert.KernelIdeal.defs (F := Bits) :=
  congrArg (fun D => Pipeline.defs (Cert.KernelIdeal.pcfgs (F := Bits)) D) defs₀_eq

/-- and the host programs around them. -/
theorem main_eq : Cert.Kernel.main (F := Bits) = Cert.KernelIdeal.main (F := Bits) := rfl

/-- THE FRAME: every execution ends with the arguments unchanged and every semaphore at zero. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (congrArg (fun D => θ_run D (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)) defs_eq).mpr (Cert.KernelIdeal.Bag.frame (F := Bits) m ρ)

end Cert.Kernel.Bag
-- ==== Proof.Softmax.lean ====
/- The online softmax over the extended reals: a running maximum, and a running sum of exponentials taken relative to
   it, rescaled whenever the maximum moves, end at what one pass over all the elements gives. The scores are finite;
   the weighted values may be anything. -/
module

public import Idealize.ShloMosaic.PureOps.Ideal

@[expose] public section

noncomputable section

namespace Cert.Softmax

open Idealize.ShloMosaic

variable {ι : Type} [DecidableEq ι]

/-- Finite scores: none is an infinity. -/
def Fin' (a : ι → EReal) : Prop := ∀ i, ∃ r : ℝ, a i = r

/-- The greatest score of `S`; −∞ of no score. -/
def top (a : ι → EReal) (S : Finset ι) : EReal := S.sup a

/-- The sum over `S` of the exponentials relative to its greatest score, each times its value of `t`. -/
def num (a t : ι → EReal) (S : Finset ι) : EReal := ∑ i ∈ S, Ideal.exp (a i - top a S) * t i

/-- The sum of the exponentials themselves. -/
def den (a : ι → EReal) (S : Finset ι) : EReal := ∑ i ∈ S, Ideal.exp (a i - top a S)

/-- The exponential of a difference of finite numbers is the real one. -/
theorem exp_sub (a b : ℝ) : Ideal.exp ((a : EReal) - (b : EReal)) = ((Real.exp (a - b) : ℝ) : EReal) := by
  rw [← EReal.coe_sub]; rfl

/-- A finite sum of extended reals times a nonnegative real. -/
theorem sum_mul (S : Finset ι) (f : ι → EReal) (c : ℝ) (hc : 0 ≤ c) : (∑ i ∈ S, f i) * (c : EReal) = ∑ i ∈ S, f i * (c : EReal) := by
  induction S using Finset.induction_on with
  | empty => simp
  | insert i S hi ih =>
    rw [Finset.sum_insert hi, Finset.sum_insert hi, ← ih]
    exact EReal.right_distrib_of_nonneg_of_ne_top (by exact_mod_cast hc) (EReal.coe_ne_top c) _ _

/-- A finite sum of reals, read in the extended reals. -/
theorem coe_sum (S : Finset ι) (f : ι → ℝ) : ((∑ i ∈ S, f i : ℝ) : EReal) = ∑ i ∈ S, (f i : EReal) := by
  induction S using Finset.induction_on with
  | empty => simp
  | insert i S hi ih => rw [Finset.sum_insert hi, Finset.sum_insert hi, EReal.coe_add, ih]

/-- The greatest of some finite scores is finite. -/
theorem top_real {a : ι → EReal} (ha : Fin' a) {S : Finset ι} (hS : S.Nonempty) : ∃ M : ℝ, top a S = M := by
  obtain ⟨i, _, h⟩ := Finset.exists_mem_eq_sup S hS a
  obtain ⟨r, hr⟩ := ha i
  exact ⟨r, h.trans hr⟩

/-- Rescaling to the greater maximum of a larger set: every term is then taken relative to it. -/
theorem num_rescale {a : ι → EReal} (ha : Fin' a) (t : ι → EReal) {S T : Finset ι} (hST : S ⊆ T) :
    num a t S * Ideal.exp (top a S - top a T) = ∑ i ∈ S, Ideal.exp (a i - top a T) * t i := by
  rcases S.eq_empty_or_nonempty with rfl | hS
  · simp [num]
  · obtain ⟨M, hM⟩ := top_real ha hS
    obtain ⟨N, hN⟩ := top_real ha (hS.mono hST)
    rw [num, hM, hN, exp_sub, sum_mul _ _ _ (Real.exp_pos _).le]
    refine Finset.sum_congr rfl fun i _ => ?_
    obtain ⟨r, hr⟩ := ha i
    have e : r - M + (M - N) = r - N := by ring
    rw [hr, exp_sub, exp_sub, mul_right_comm, ← EReal.coe_mul, ← Real.exp_add, e]

theorem den_eq (a : ι → EReal) (S : Finset ι) : den a S = num a (fun _ => 1) S := by simp [den, num]

theorem top_union (a : ι → EReal) (S T : Finset ι) : top a (S ∪ T) = max (top a S) (top a T) := Finset.sup_union

/-- Taking in the elements of a set disjoint from `S`: the running weighted sum … -/
theorem num_union {a : ι → EReal} (ha : Fin' a) (t : ι → EReal) {S T : Finset ι} (h : Disjoint S T) :
    num a t (S ∪ T) = num a t S * Ideal.exp (top a S - top a (S ∪ T)) + ∑ i ∈ T, Ideal.exp (a i - top a (S ∪ T)) * t i := by
  rw [num_rescale ha t Finset.subset_union_left, num, Finset.sum_union h]

/-- … and the running sum. -/
theorem den_union {a : ι → EReal} (ha : Fin' a) {S T : Finset ι} (h : Disjoint S T) :
    den a (S ∪ T) = den a S * Ideal.exp (top a S - top a (S ∪ T)) + ∑ i ∈ T, Ideal.exp (a i - top a (S ∪ T)) := by
  rw [den_eq, den_eq, num_union ha _ h]; simp

/-- The sum of the exponentials is a positive real. -/
theorem den_pos {a : ι → EReal} (ha : Fin' a) {S : Finset ι} (hS : S.Nonempty) : ∃ d : ℝ, 0 < d ∧ den a S = d := by
  obtain ⟨M, hM⟩ := top_real ha hS
  choose r hr using ha
  refine ⟨∑ i ∈ S, Real.exp (r i - M), Finset.sum_pos (fun i _ => Real.exp_pos _) hS, ?_⟩
  rw [den, hM, coe_sum]
  exact Finset.sum_congr rfl fun i _ => by rw [hr, exp_sub]

/-- Dividing the weighted sum at the end, or every weight before summing, is the same. -/
theorem div_num {a : ι → EReal} (ha : Fin' a) (t : ι → EReal) {S : Finset ι} (hS : S.Nonempty) :
    Ideal.div (num a t S) (den a S) = ∑ i ∈ S, Ideal.div (Ideal.exp (a i - top a S)) (den a S) * t i := by
  obtain ⟨d, hd, h⟩ := den_pos ha hS
  have h0 : ((d : ℝ) : EReal) ≠ 0 := by exact_mod_cast hd.ne'
  rw [h, Ideal.div, if_neg h0, ← EReal.coe_inv, num, sum_mul _ _ _ (inv_nonneg.2 hd.le)]
  exact Finset.sum_congr rfl fun i _ => by rw [Ideal.div, if_neg h0, ← EReal.coe_inv, mul_right_comm]

/-! ## A run over chunks -/

/-- The running state after the elements of `S`: maximum, sum, weighted sum. -/
structure Run (a t : ι → EReal) (S : Finset ι) (m d n : EReal) : Prop where
  top : m = top a S
  den : d = den a S
  num : n = num a t S

/-- Before any element. -/
theorem Run.init (a t : ι → EReal) : Run a t ∅ ⊥ 0 0 := ⟨by simp [Softmax.top], by simp [Softmax.den], by simp [Softmax.num]⟩

/-- One chunk, listed by `e`: the maximum with the chunk's own, the sums rescaled and the chunk's terms added. -/
theorem Run.step {a t : ι → EReal} (ha : Fin' a) {S : Finset ι} {m d n : EReal} (h : Run a t S m d n) {κ : Type} [Fintype κ]
    (e : κ ↪ ι) (hd : Disjoint S (Finset.univ.map e)) {m' : EReal}
    (hm : m' = max m (Finset.univ.sup fun i : κ => a (e i))) :
    Run a t (S ∪ Finset.univ.map e) m' (d * Ideal.exp (m - m') + ∑ i : κ, Ideal.exp (a (e i) - m'))
      (n * Ideal.exp (m - m') + ∑ i : κ, Ideal.exp (a (e i) - m') * t (e i)) := by
  have hm' : m' = Softmax.top a (S ∪ Finset.univ.map e) := by
    rw [hm, top_union, h.top]
    congr 1
    exact (Finset.sup_map _ _ _).symm
  refine ⟨hm', ?_, ?_⟩
  · rw [den_union ha hd, h.den, ← hm', h.top, Finset.sum_map]
  · rw [num_union ha t hd, h.num, ← hm', h.top, Finset.sum_map]

/-- Rows `512 j …` of 2048. -/
def rows (j : Fin 4) : Fin 512 ↪ Fin 2048 :=
  ⟨fun i => ⟨512 * j.val + i.val, by omega⟩, fun i i' h => by simpa [Fin.ext_iff] using h⟩

/-- The rows of the first `j` chunks. -/
def seen (j : ℕ) : Finset (Fin 2048) := Finset.univ.filter fun x => x.val < 512 * j

theorem seen_zero : seen 0 = ∅ := by simp [seen]
theorem seen_four : seen 4 = Finset.univ := by
  ext x; simp only [seen, Finset.mem_filter, Finset.mem_univ, true_and, iff_true]; omega

theorem mem_rows (j : Fin 4) (x : Fin 2048) : x ∈ Finset.univ.map (rows j) ↔ 512 * j.val ≤ x.val ∧ x.val < 512 * j.val + 512 := by
  simp only [Finset.mem_map, Finset.mem_univ, true_and, rows, Function.Embedding.coeFn_mk, Fin.ext_iff]
  refine ⟨fun ⟨i, h⟩ => ?_, fun h => ⟨⟨x.val - 512 * j.val, by omega⟩, ?_⟩⟩
  · have h' : 512 * j.val + i.val = x.val := h
    omega
  · show 512 * j.val + (x.val - 512 * j.val) = x.val
    omega

theorem seen_succ (j : Fin 4) : seen j.val ∪ Finset.univ.map (rows j) = seen (j.val + 1) := by
  ext x
  rw [Finset.mem_union, mem_rows]
  simp only [seen, Finset.mem_filter, Finset.mem_univ, true_and]
  omega

theorem seen_disjoint (j : Fin 4) : Disjoint (seen j.val) (Finset.univ.map (rows j)) := by
  rw [Finset.disjoint_left]
  intro x h
  rw [mem_rows]
  simp only [seen, Finset.mem_filter, Finset.mem_univ, true_and] at h
  omega

/-- One chunk of 512 rows taken in. -/
theorem Run.chunk {a t : Fin 2048 → EReal} (ha : Fin' a) (j : Fin 4) {m d n : EReal} (h : Run a t (seen j.val) m d n) {m' : EReal}
    (hm : m' = max m (Finset.univ.sup fun i : Fin 512 => a (rows j i))) :
    Run a t (seen (j.val + 1)) m' (d * Ideal.exp (m - m') + ∑ i : Fin 512, Ideal.exp (a (rows j i) - m'))
      (n * Ideal.exp (m - m') + ∑ i : Fin 512, Ideal.exp (a (rows j i) - m') * t (rows j i)) :=
  seen_succ j ▸ h.step ha (rows j) (seen_disjoint j) hm

end Cert.Softmax

end
-- ==== Proof.Value.Model.lean ====
/- The bag classifier in plain mathematics over the extended reals: sampled weights, their norm, attention scores,
   the attention-weighted mean of a bag, and its standardisation over the sixteen bags. -/
module

public import proofs.«01_k».proof.Proof.Softmax
public import Idealize.ShloMosaic.Lib.ValueIdx

@[expose] public section

noncomputable section

namespace Cert.Model

open Idealize.ShloMosaic Idealize.ShloMosaic.ValueIdx Cert.Softmax

/-- An array of 1024 rows of 8 numbers. -/
abbrev Par : Type := (⟨2, ![1024, 8]⟩ : Shape).Idx → EReal
/-- An array of 1024 rows of 8 by 8 numbers. -/
abbrev Noise : Type := (⟨3, ![1024, 8, 8]⟩ : Shape).Idx → EReal
/-- The sixteen bags: 2048 rows of 512 features each. -/
abbrev Bags : Type := (⟨3, ![16, 2048, 512]⟩ : Shape).Idx → EReal

variable (X : Bags) (mu ls : Par) (eps : Noise)

/-- The sampled weight of row `q`, class `p`, sample `s`. -/
def beta (q : Fin 1024) (p s : Fin 8) : EReal := mu (ix2 q p) + Ideal.exp (ls (ix2 q p)) * eps (ix3 q p s)

/-- The weights of the attention scores: the first 512 rows … -/
def lower (q : Fin 512) (p s : Fin 8) : EReal := beta mu ls eps ⟨q.val, by omega⟩ p s
/-- … and those of the values, the last 512. -/
def upper (q : Fin 512) (p s : Fin 8) : EReal := beta mu ls eps ⟨512 + q.val, by omega⟩ p s

/-- The root mean square of the value weights of class `p`, sample `s`. -/
def size (p s : Fin 8) : EReal := Ideal.sqrt (Ideal.div (∑ q : Fin 512, upper mu ls eps q p s * upper mu ls eps q p s) 512)

/-- The value weights divided by it. -/
def eta (q : Fin 512) (p s : Fin 8) : EReal := Ideal.div (upper mu ls eps q p s) (size mu ls eps p s)

/-- Row `x`'s attention score in bag `n` … -/
def score (n : Fin 16) (p s : Fin 8) (x : Fin 2048) : EReal := ∑ q : Fin 512, X (ix3 n x q) * lower mu ls eps q p s
/-- … and its value. -/
def value (n : Fin 16) (p s : Fin 8) (x : Fin 2048) : EReal := ∑ q : Fin 512, X (ix3 n x q) * eta mu ls eps q p s

/-- The softmax-weighted mean of bag `n`'s values. -/
def mean (n : Fin 16) (p s : Fin 8) : EReal :=
  Ideal.div (num (score X mu ls eps n p s) (value X mu ls eps n p s) Finset.univ) (den (score X mu ls eps n p s) Finset.univ)

/-- The average of sixteen numbers. -/
def avg (u : Fin 16 → EReal) : EReal := Ideal.div (∑ l, u l) 16

/-- Sixteen numbers less their average, over their sample standard deviation, times `b`. -/
def standard (u : Fin 16 → EReal) (b : EReal) (n : Fin 16) : EReal :=
  Ideal.div (b * (u n - avg u)) (Ideal.sqrt (Ideal.div (∑ l, (u l - avg u) * (u l - avg u)) 15))

/-- The classifier's output. -/
def out (n : Fin 16) (p s : Fin 8) : EReal := standard (fun l => mean X mu ls eps l p s) (size mu ls eps p s) n

end Cert.Model
-- ==== Proof.Value.Fold.lean ====
/- What the kernel does to one bag, as one step repeated over its four chunks: the step that the two halves of a
   grid step both spell out. -/
module

public import proofs.«01_k».proof.Proof.KernelIdeal.Step

@[expose] public section

set_option maxRecDepth 16384

noncomputable section

namespace Cert.KernelIdeal.Bag

open Cert.KernelIdeal Cert.KernelIdeal.Gen
open Idealize.ShloMosaic

variable {F : FTy → Type} [FloatOps F]

/-- The products of every weight column with the rows of a chunk: 64 scores and 64 values of each row. -/
def prods (w : Vec F S512x128 .f32) (c : Vec F S1x1x512x512 .f32) : FVec F S128x512 .f32 :=
  matmul dot_S512x128_S512x512_S128x512_0_1_1_0_n_n none w (shapeCast S512x512 c shapeCasts_S1x1x512x512_S512x512) (constant S128x512 .f32 0x00000000#32)

/-- The scores of a chunk's rows … -/
def score (w : Vec F S512x128 .f32) (c : Vec F S1x1x512x512 .f32) : FVec F S64x512 .f32 :=
  extractStridedSlice S64x512 ![0, 0] (prods w c) slices_S128x512_o0_0_S64x512

/-- … and their values. -/
def value (w : Vec F S512x128 .f32) (c : Vec F S1x1x512x512 .f32) : FVec F S64x512 .f32 :=
  extractStridedSlice S64x512 ![64, 0] (prods w c) slices_S128x512_o64_0_S64x512

/-- Each row's greatest element. -/
def rowMax (v : FVec F S64x512 .f32) : FVec F S64x1 .f32 :=
  shapeCast S64x1 (multiReduction .maximumf [1] S64 v 0xFF800000#32 reduces_S64x512_S64 (.inl rfl) rfl) shapeCasts_S64_S64x1

/-- Each row's sum. -/
def rowSum (v : FVec F S64x512 .f32) : FVec F S64x1 .f32 :=
  shapeCast S64x1 (multiReduction .add [1] S64 v 0x00000000#32 reduces_S64x512_S64 (.inl rfl) rfl) shapeCasts_S64_S64x1

/-- A chunk's exponentials relative to the maxima `m`. -/
def exps (w : Vec F S512x128 .f32) (c : Vec F S1x1x512x512 .f32) (m : FVec F S64x1 .f32) : FVec F S64x512 .f32 :=
  exp (subf (score w c) (broadcastTo S64x512 m broadcasts_S64x1_S64x512))

/-- The maxima after a chunk. -/
def stepM (w : Vec F S512x128 .f32) (c : Vec F S1x1x512x512 .f32) (m : FVec F S64x1 .f32) : FVec F S64x1 .f32 :=
  maximumf m (rowMax (score w c))

/-- The sums after a chunk. -/
def stepD (w : Vec F S512x128 .f32) (c : Vec F S1x1x512x512 .f32) (m d : FVec F S64x1 .f32) : FVec F S64x1 .f32 :=
  addf (mulf d (exp (subf m (stepM w c m)))) (rowSum (exps w c (stepM w c m)))

/-- The weighted sums after a chunk. -/
def stepN (w : Vec F S512x128 .f32) (c : Vec F S1x1x512x512 .f32) (m n : FVec F S64x1 .f32) : FVec F S64x1 .f32 :=
  addf (mulf n (exp (subf m (stepM w c m)))) (rowSum (mulf (exps w c (stepM w c m)) (value w c)))

/-- Before any chunk the maxima are −∞ … -/
def m0 : FVec F S64x1 .f32 := broadcast S64x1 (Scalar.ofBits .f32 0xFF800000#32)
/-- … and the sums zero. -/
def z0 : FVec F S64x1 .f32 := broadcast S64x1 (Scalar.ofBits .f32 0x00000000#32)

/-- One bag: the weighted sums over the sums, after its four chunks. -/
def bagMean (w : Vec F S512x128 .f32) (c0 c1 c2 c3 : Vec F S1x1x512x512 .f32) : FVec F S64x1 .f32 :=
  let m1 := stepM w c0 m0
  let m2 := stepM w c1 m1
  let m3 := stepM w c2 m2
  divf (stepN w c3 m3 (stepN w c2 m2 (stepN w c1 m1 (stepN w c0 m0 z0))))
    (stepD w c3 m3 (stepD w c2 m2 (stepD w c1 m1 (stepD w c0 m0 z0))))

/-- A column written into lane `2 g + k` of the bag means, by adding it there and zero elsewhere. -/
def addLane (g k : BitVec 32) (col : FVec F S64x1 .f32) (u : Vec F S64x16 .f32) : FVec F S64x16 .f32 :=
  shapeCast S64x16 (addf u (select
    (cmpi .eq (iota .tc S64x16 32 [1] iota_S64x16_d1_w32) (broadcast S64x16 (Scalar.addi (Scalar.muli g 2#32) k)))
    (broadcastTo S64x16 (shapeCast S64x1 col shapeCasts_S64x1_S64x1) broadcasts_S64x1_S64x16)
    (broadcast S64x16 (Scalar.ofBits .f32 0x00000000#32)))) shapeCasts_S64x16_S64x16

/-- The first half of a grid step puts its bag's mean into the lane of that bag, -/
theorem bagA_eq (g : BitVec 32) (w : Vec F S512x128 .f32) (c0 c1 c2 c3 : Vec F S1x1x512x512 .f32) (u : Vec F S64x16 .f32) :
    bagA g w c0 c1 c2 c3 u = addLane g 0#32 (bagMean w c0 c1 c2 c3) u := rfl

/-- and so does the second. -/
theorem bagB_eq (g : BitVec 32) (w : Vec F S512x128 .f32) (c0 c1 c2 c3 : Vec F S1x1x512x512 .f32) (u : Vec F S64x16 .f32) :
    bagB g w c0 c1 c2 c3 u = addLane g 1#32 (bagMean w c0 c1 c2 c3) u := rfl

end Cert.KernelIdeal.Bag

end
-- ==== Proof.Value.Bag.lean ====
/- One bag over the extended reals: after its four chunks the kernel holds the softmax-weighted mean of the bag's
   values, one for every column. -/
module

public import proofs.«01_k».proof.Proof.Value.Fold
public import proofs.«01_k».proof.Proof.Softmax
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 16384

noncomputable section

namespace Cert.KernelIdeal.Bag

open Cert.KernelIdeal Cert.KernelIdeal.Gen
open Idealize.ShloMosaic Idealize.ShloMosaic.ValueIdx
open Cert.Softmax

/-- The product of weight column `r` with row `x` of bag `n`. -/
def prodAt (X : S16x2048x512.Idx → EReal) (w : S512x128.Idx → EReal) (n : Fin 16) (r : Fin 128) (x : Fin 2048) : EReal :=
  ∑ q : Fin 512, w (ix2 q r) * X (ix3 n x q)

/-- Row `x`'s score in column `r` … -/
def scoreAt (X : S16x2048x512.Idx → EReal) (w : S512x128.Idx → EReal) (n : Fin 16) (r : Fin 64) (x : Fin 2048) : EReal :=
  prodAt X w n ⟨r.val, by omega⟩ x

/-- … and its value. -/
def valueAt (X : S16x2048x512.Idx → EReal) (w : S512x128.Idx → EReal) (n : Fin 16) (r : Fin 64) (x : Fin 2048) : EReal :=
  prodAt X w n ⟨64 + r.val, by omega⟩ x

/-- −∞ as the kernel writes it. -/
theorem ofBits_bot : Ideal.ofBits .f32 0xFF800000#32 = ⊥ := by simp [Ideal.ofBits, Ideal.ieee]

/-- The contraction runs over the 512 features. -/
theorem prods_apply (X : S16x2048x512.Idx → EReal) (w : S512x128.Idx → EReal) (n : Fin 16) (j : Fin 4) (r : Fin 128) (i : Fin 512) :
    prods (F := Ideal) w (chunk (F := Ideal) X n j) (ix2 r i) = prodAt X w n r (rows j i) := by
  unfold prods prodAt
  simp only [matmul]
  rw [Ideal.matmul_constant_zero_apply]
  rw [← Equiv.sum_comp (contrEquiv1 dot_S512x128_S512x512_S128x512_0_1_1_0_n_n 512 rfl rfl).symm]
  refine Finset.sum_congr rfl fun q _ => ?_
  have hk := contrEquiv1_symm_val dot_S512x128_S512x512_S128x512_0_1_1_0_n_n 512 rfl rfl q
  have el : dot_S512x128_S512x512_S128x512_0_1_1_0_n_n.lhsIdx (ix2 r i) ((contrEquiv1 dot_S512x128_S512x512_S128x512_0_1_1_0_n_n 512 rfl rfl).symm q) = ix2 q r := by
    funext a; apply Fin.ext
    match a with
    | ⟨0, _⟩ => exact hk
    | ⟨1, _⟩ => rfl
  have er : dot_S512x128_S512x512_S128x512_0_1_1_0_n_n.rhsIdx (ix2 r i) ((contrEquiv1 dot_S512x128_S512x512_S128x512_0_1_1_0_n_n 512 rfl rfl).symm q) = ix2 i q := by
    funext a; apply Fin.ext
    match a with
    | ⟨0, _⟩ => rfl
    | ⟨1, _⟩ => exact hk
  rw [el, er]
  congr 1
  have hr := reshapeEquiv_ix2_11ab (a := 512) (b := 512) shapeCasts_S1x1x512x512_S512x512.symm i q
  exact (congrArg (chunk (F := Ideal) X n j) hr).trans (congrArg X (by
    funext a; apply Fin.ext
    match a with
    | ⟨0, _⟩ => rfl
    | ⟨1, _⟩ => rfl
    | ⟨2, _⟩ => rfl))

theorem score_apply (X : S16x2048x512.Idx → EReal) (w : S512x128.Idx → EReal) (n : Fin 16) (j : Fin 4) (r : Fin 64) (i : Fin 512) :
    score (F := Ideal) w (chunk (F := Ideal) X n j) (ix2 r i) = scoreAt X w n r (rows j i) := by
  unfold score scoreAt
  rw [← prods_apply]
  exact slice2_axis0_apply 0 _ _ r i ⟨r.val, by omega⟩ (Nat.zero_add _).symm

theorem value_apply (X : S16x2048x512.Idx → EReal) (w : S512x128.Idx → EReal) (n : Fin 16) (j : Fin 4) (r : Fin 64) (i : Fin 512) :
    value (F := Ideal) w (chunk (F := Ideal) X n j) (ix2 r i) = valueAt X w n r (rows j i) := by
  unfold value valueAt
  rw [← prods_apply]
  exact slice2_axis0_apply 64 _ _ r i ⟨64 + r.val, by omega⟩ rfl

/-- A row's coordinates put back. -/
theorem lift_row (r : Fin 64) (k : Fin 512) : (reduces_S64x512_S64 : S64x512.Reduces [1] S64).lift (ix1 r) k = ix2 r k := by
  funext a; apply Fin.ext
  match a with
  | ⟨0, _⟩ => rfl
  | ⟨1, _⟩ => rfl

theorem rowMax_apply (v : FVec Ideal S64x512 .f32) (r : Fin 64) :
    rowMax v (ix2 r 0) = Finset.univ.sup fun k : Fin 512 => v (ix2 r k) := by
  unfold rowMax
  refine (shapeCast_a_a1_apply _ _ r 0).trans ?_
  refine (Ideal.multiReduction_maximumf_single v _ reduces_S64x512_S64 (.inl rfl) rfl (ix1 r)).trans ?_
  refine Eq.trans (congrArg (fun b => Finset.fold max b _ _) ofBits_bot) ?_
  exact congrArg (fun f => Finset.univ.sup f) (funext fun k => congrArg v (lift_row r k))

theorem rowSum_apply (v : FVec Ideal S64x512 .f32) (r : Fin 64) : rowSum v (ix2 r 0) = ∑ k : Fin 512, v (ix2 r k) := by
  unfold rowSum
  refine (shapeCast_a_a1_apply _ _ r 0).trans ?_
  refine (Ideal.multiReduction_add_single v _ reduces_S64x512_S64 (.inl rfl) rfl (ix1 r)).trans ?_
  exact Finset.sum_congr rfl fun k _ => congrArg v (lift_row r k)

/-- A column spread over many lanes. -/
theorem spread_apply {α : Type} {a b : ℕ} (v : (⟨2, ![a, 1]⟩ : Shape).Idx → α) (h : (⟨2, ![a, 1]⟩ : Shape).Broadcasts ⟨2, ![a, b]⟩) (ha : a ≠ 1)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

theorem exps_apply (X : S16x2048x512.Idx → EReal) (w : S512x128.Idx → EReal) (n : Fin 16) (j : Fin 4) (m : FVec Ideal S64x1 .f32) (r : Fin 64) (i : Fin 512) :
    exps (F := Ideal) w (chunk (F := Ideal) X n j) m (ix2 r i) = Ideal.exp (scoreAt X w n r (rows j i) - m (ix2 r 0)) := by
  unfold exps
  show Ideal.exp (score (F := Ideal) w (chunk (F := Ideal) X n j) (ix2 r i) - broadcastTo S64x512 m broadcasts_S64x1_S64x512 (ix2 r i)) = _
  rw [score_apply]
  exact congrArg (fun b => Ideal.exp (_ - b)) (spread_apply m _ (by decide) r i)

/-- A chunk taken in. -/
theorem run_step (X : S16x2048x512.Idx → EReal) (w : S512x128.Idx → EReal) (n : Fin 16) (r : Fin 64) (ha : Fin' (scoreAt X w n r)) (j : Fin 4)
    {m d s : FVec Ideal S64x1 .f32} (h : Run (scoreAt X w n r) (valueAt X w n r) (seen j.val) (m (ix2 r 0)) (d (ix2 r 0)) (s (ix2 r 0))) :
    Run (scoreAt X w n r) (valueAt X w n r) (seen (j.val + 1)) (stepM (F := Ideal) w (chunk (F := Ideal) X n j) m (ix2 r 0))
      (stepD (F := Ideal) w (chunk (F := Ideal) X n j) m d (ix2 r 0)) (stepN (F := Ideal) w (chunk (F := Ideal) X n j) m s (ix2 r 0)) := by
  have hm : stepM (F := Ideal) w (chunk (F := Ideal) X n j) m (ix2 r 0)
      = max (m (ix2 r 0)) (Finset.univ.sup fun i : Fin 512 => scoreAt X w n r (rows j i)) := by
    refine congrArg (max (m (ix2 r 0))) ((rowMax_apply _ r).trans ?_)
    exact congrArg (fun f => Finset.univ.sup f) (funext fun i => score_apply X w n j r i)
  have hR := h.chunk ha j hm
  have hd : stepD (F := Ideal) w (chunk (F := Ideal) X n j) m d (ix2 r 0) = _ :=
    congrArg (d (ix2 r 0) * Ideal.exp (m (ix2 r 0) - stepM (F := Ideal) w (chunk (F := Ideal) X n j) m (ix2 r 0)) + ·)
      ((rowSum_apply _ r).trans (Finset.sum_congr rfl fun i _ => exps_apply X w n j _ r i))
  have hs : stepN (F := Ideal) w (chunk (F := Ideal) X n j) m s (ix2 r 0) = _ :=
    congrArg (s (ix2 r 0) * Ideal.exp (m (ix2 r 0) - stepM (F := Ideal) w (chunk (F := Ideal) X n j) m (ix2 r 0)) + ·)
      ((rowSum_apply _ r).trans (Finset.sum_congr rfl fun i _ =>
        congrArg₂ (· * ·) (exps_apply X w n j _ r i) (value_apply X w n j r i)))
  rw [hd, hs]
  exact hR

/-- The softmax-weighted mean of bag `n`'s values in column `r`. -/
def bagAt (X : S16x2048x512.Idx → EReal) (w : S512x128.Idx → EReal) (n : Fin 16) (r : Fin 64) : EReal :=
  Ideal.div (num (scoreAt X w n r) (valueAt X w n r) Finset.univ) (den (scoreAt X w n r) Finset.univ)

/-- What the kernel holds after the four chunks of bag `n`. -/
theorem bagMean_apply (X : S16x2048x512.Idx → EReal) (w : S512x128.Idx → EReal) (n : Fin 16) (r : Fin 64) (ha : Fin' (scoreAt X w n r)) :
    bagMean (F := Ideal) w (chunk (F := Ideal) X n 0) (chunk (F := Ideal) X n 1) (chunk (F := Ideal) X n 2) (chunk (F := Ideal) X n 3) (ix2 r 0) = bagAt X w n r := by
  have h0 : Run (scoreAt X w n r) (valueAt X w n r) (seen (0 : Fin 4).val) (m0 (F := Ideal) (ix2 r 0)) (z0 (F := Ideal) (ix2 r 0)) (z0 (F := Ideal) (ix2 r 0)) := by
    have e1 : m0 (F := Ideal) (ix2 r 0) = ⊥ := ofBits_bot
    have e2 : z0 (F := Ideal) (ix2 r 0) = 0 := Ideal.ofBits_zero_f32
    rw [e1, e2]
    exact seen_zero ▸ Run.init _ _
  have h1 := run_step X w n r ha 0 h0
  have h2 := run_step X w n r ha 1 h1
  have h3 := run_step X w n r ha 2 h2
  have h4 := run_step X w n r ha 3 h3
  have hu : seen ((3 : Fin 4).val + 1) = Finset.univ := seen_four
  rw [hu] at h4
  exact congrArg₂ Ideal.div h4.num h4.den

end Cert.KernelIdeal.Bag

end
-- ==== Proof.Value.Means.lean ====
/- All sixteen bags: after the eight grid steps lane `n` of the bag means holds the mean of bag `n`. -/
module

public import proofs.«01_k».proof.Proof.Value.Bag
public import proofs.«01_k».proof.Proof.KernelIdeal.Body

@[expose] public section

set_option maxRecDepth 16384

noncomputable section

namespace Cert.KernelIdeal.Bag

open Cert.KernelIdeal Cert.KernelIdeal.Gen
open Idealize.ShloMosaic Idealize.ShloMosaic.TcCoe Idealize.ShloMosaic.ValueIdx
open Cert.Softmax

/-- The lane a step writes: the words the kernel compares are equal exactly there. -/
theorem lane_eq (b : Fin 8) (k : Fin 2) (l : Fin 16) :
    IntOp.cmpi .eq (BitVec.ofNat 32 l.val) (Scalar.addi (Scalar.muli (BitVec.ofNat 32 b.val) 2#32) (BitVec.ofNat 32 k.val))
      = if l = bagNo b k then 1#1 else 0#1 := by
  revert b k l; decide

/-- Adding a column into one lane leaves the others as they are. -/
theorem addLane_apply (b : Fin 8) (k : Fin 2) (col : FVec Ideal S64x1 .f32) (u : Vec Ideal S64x16 .f32) (r : Fin 64) (l : Fin 16) :
    addLane (F := Ideal) (BitVec.ofNat 32 b.val) (BitVec.ofNat 32 k.val) col u (ix2 r l)
      = u (ix2 r l) + if l = bagNo b k then col (ix2 r 0) else 0 := by
  unfold addLane
  rw [shapeCast_self, shapeCast_self]
  refine congrArg (u (ix2 r l) + ·) ?_
  show Scalar.select (IntOp.cmpi .eq (BitVec.ofNat 32 (0 * 16 + l.val)) _) (broadcastTo S64x16 col broadcasts_S64x1_S64x16 (ix2 r l)) (Ideal.ofBits .f32 0x00000000#32) = _
  rw [Nat.zero_mul, Nat.zero_add]
  refine (congrArg (fun c => Scalar.select c _ _) (lane_eq b k l)).trans ?_
  by_cases h : l = bagNo b k
  · rw [if_pos h, if_pos h]
    exact (select_one _ _).trans (spread_apply col _ (by decide) r l)
  · rw [if_neg h, if_neg h]
    exact (select_zero _ _).trans Ideal.ofBits_zero_f32

/-- One grid step adds the means of its two bags, each into its lane. -/
theorem stepU_apply (X : S16x2048x512.Idx → EReal) (t : Fin grid0.N) (w : S512x128.Idx → EReal) (u : Vec Ideal S64x16 .f32) (r : Fin 64) (l : Fin 16)
    (ha : ∀ n, Fin' (scoreAt X w n r)) :
    stepU (F := Ideal) X t w u (ix2 r l)
      = u (ix2 r l) + (if l = bagNo (Ring.bk 8 t.val) 0 then bagAt X w l r else 0) + (if l = bagNo (Ring.bk 8 t.val) 1 then bagAt X w l r else 0) := by
  have hN : t.val < 8 := t.isLt
  have hg : (grid0.coords t 0).val = (Ring.bk 8 t.val : Fin 8).val := by
    rw [Ring.bk_val hN]
    exact (Pipeline.Grid.coords_val t 0 (S := 1) (B := 8) rfl rfl).trans (by omega)
  have hput : ∀ (k : Fin 2) (v : Vec Ideal S64x16 .f32),
      addLane (F := Ideal) (BitVec.ofNat 32 (grid0.coords t 0).val) (BitVec.ofNat 32 k.val)
        (bagMean (F := Ideal) w (chunk (F := Ideal) X (bagNo (Ring.bk 8 t.val) k) 0) (chunk (F := Ideal) X (bagNo (Ring.bk 8 t.val) k) 1)
          (chunk (F := Ideal) X (bagNo (Ring.bk 8 t.val) k) 2) (chunk (F := Ideal) X (bagNo (Ring.bk 8 t.val) k) 3)) v (ix2 r l)
        = v (ix2 r l) + if l = bagNo (Ring.bk 8 t.val) k then bagAt X w l r else 0 := by
    intro k v
    rw [hg, addLane_apply]
    refine congrArg (v (ix2 r l) + ·) ?_
    by_cases h : l = bagNo (Ring.bk 8 t.val) k
    · rw [if_pos h, if_pos h, bagMean_apply X w _ r (ha _), h]
    · rw [if_neg h, if_neg h]
  unfold stepU
  rw [bagA_eq, bagB_eq]
  exact (hput 1 _).trans (congrArg (· + _) (hput 0 u))

variable (m : (ℓ : Loc nD τ sig) → Buf (Elt Ideal) ℓ)

/-- After `n` steps the first `2 n` lanes hold their bags' means, the others zero. -/
theorem means_apply (c : Dev nD) (r : Fin 64) (l : Fin 16)
    (ha : ∀ n, Fin' (scoreAt (xs (F := Ideal) m c) (weights (F := Ideal) m c) n r)) (n : ℕ) (hn : n ≤ 8) :
    means (F := Ideal) m c n (ix2 r l) = if l.val < 2 * n then bagAt (xs (F := Ideal) m c) (weights (F := Ideal) m c) l r else 0 := by
  induction n with
  | zero =>
    rw [if_neg (by omega)]
    show k0_pay8 (F := Ideal) (ix2 r l) = 0
    unfold k0_pay8
    rw [shapeCast_self]
    exact Ideal.ofBits_zero_f32
  | succ n ih =>
    have hs : means (F := Ideal) m c (n + 1) = stepU (F := Ideal) (xs (F := Ideal) m c) ⟨n, (by omega : n < 8)⟩ (weights (F := Ideal) m c) (means (F := Ideal) m c n) :=
      means_succ (F := Ideal) m c ⟨n, (by omega : n < 8)⟩
    refine (congrFun hs _).trans ((stepU_apply _ _ _ _ r l ha).trans ?_)
    have hb : (Ring.bk 8 n : Fin 8).val = n := Ring.bk_val (by omega)
    have hk : ∀ k : Fin 2, l = bagNo (Ring.bk 8 n) k ↔ l.val = 2 * n + k.val := fun k => by
      rw [Fin.ext_iff]
      show l.val = 2 * (Ring.bk 8 n : Fin 8).val + k.val ↔ _
      rw [hb]
    rw [ih (by omega)]
    simp only [hk, Fin.val_zero, Fin.val_one, Nat.add_zero]
    by_cases h0 : l.val < 2 * n
    · rw [if_pos h0, if_neg (by omega), if_neg (by omega), if_pos (by omega), add_zero, add_zero]
    · by_cases h1 : l.val = 2 * n
      · rw [if_neg h0, if_pos h1, if_neg (by omega), if_pos (by omega), zero_add, add_zero]
      · by_cases h2 : l.val = 2 * n + 1
        · rw [if_neg h0, if_neg h1, if_pos h2, if_pos (by omega), zero_add, zero_add]
        · rw [if_neg h0, if_neg h1, if_neg h2, if_neg (by omega), zero_add, zero_add]

end Cert.KernelIdeal.Bag

end
-- ==== Proof.Value.Weights.lean ====
/- What the kernel's first grid point prepares, read at an index: column `8p + s` of the weights is class `p`, sample `s`
   of the sampled weights, the value half divided by its norm; and the norms themselves. -/
module

public import proofs.«01_k».proof.Proof.Value.Model
public import proofs.«01_k».proof.Proof.Value.Means

@[expose] public section

set_option maxRecDepth 16384

noncomputable section

namespace Cert.KernelIdeal.Bag

open Cert.KernelIdeal Cert.KernelIdeal.Gen
open Idealize.ShloMosaic Idealize.ShloMosaic.TcCoe Idealize.ShloMosaic.ValueIdx
open Cert.Softmax

variable (m : (ℓ : Loc nD τ sig) → Buf (Elt Ideal) ℓ) (c : Dev nD)

/-- Column `8p + s`. -/
def col (p s : Fin 8) : Fin 64 := ⟨p.val * 8 + s.val, by omega⟩

/-- The means, the log scales and the noise as launched. -/
def muOf : Cert.Model.Par := m ((c : Thread nD τ).loc main_arg1)
def lsOf : Cert.Model.Par := m ((c : Thread nD τ).loc main_arg2)
def epsOf : Cert.Model.Noise := m ((c : Thread nD τ).loc main_arg3)

/-! ## The host's lines before the region -/

theorem V_v1 : V m c main_v1 = shapeCast S1024x64 (broadcastInDim S1024x8x8 ![0, 1] bcast_S1024x8_S1024x8x8_0_1 (muOf m c)) shapeCasts_S1024x8x8_S1024x64 := by
  show StableHlo.after _ _ (Proc.devRef .tc main_v1) = _
  after_results
  rfl

theorem V_v3 : V m c main_v3 = shapeCast S1024x64 (broadcastInDim S1024x8x8 ![0, 1] bcast_S1024x8_S1024x8x8_0_1 (lsOf m c)) shapeCasts_S1024x8x8_S1024x64 := by
  show StableHlo.after _ _ (Proc.devRef .tc main_v3) = _
  after_results
  rfl

theorem V_v4 : V m c main_v4 = shapeCast S1024x64 (epsOf m c) shapeCasts_S1024x8x8_S1024x64 := by
  show StableHlo.after _ _ (Proc.devRef .tc main_v4) = _
  rfl

/-- Column `8p + s` of a 1024 × 64 view of a 1024 × 8 × 8 array. -/
theorem flat_apply (x : Cert.Model.Noise) (q : Fin 1024) (p s : Fin 8) :
    shapeCast S1024x64 x shapeCasts_S1024x8x8_S1024x64 (ix2 q (col p s)) = x (ix3 q p s) :=
  shapeCast_apply x shapeCasts_S1024x8x8_S1024x64 (ix2 q (col p s)) (ix3 q p s) (by
    rw [Shape.rowMajor_val_two, Shape.rowMajor_val_three]
    show (q.val * 8 + p.val) * 8 + s.val = q.val * 64 + (p.val * 8 + s.val)
    omega)

/-- A parameter repeated over the samples. -/
theorem spread3_apply (x : Cert.Model.Par) (q : Fin 1024) (p s : Fin 8) :
    broadcastInDim S1024x8x8 ![0, 1] bcast_S1024x8_S1024x8x8_0_1 x (ix3 q p s) = x (ix2 q p) :=
  broadcastInDim_apply _ bcast_S1024x8_S1024x8x8_0_1 x (ix3 q p s) (ix2 q p) fun a => match a with
    | ⟨0, _⟩ => by show q.val = if (1024 : Nat) = 1 then 0 else q.val; rw [if_neg (by decide)]
    | ⟨1, _⟩ => by show p.val = if (8 : Nat) = 1 then 0 else p.val; rw [if_neg (by decide)]

/-! ## The windows' blocks: each is its whole array -/

theorem block0 : (iblk m c 0 t0_0 : S1024x64.Idx → EReal) = V m c main_v1 := by
  funext j
  show V m c main_v1 (((cfg0.win 0).rect t0_0).emb j) = V m c main_v1 j
  exact congrArg _ (funext fun a => Fin.ext (Pipeline.Window.rect_emb_val_of_index_zero (cfg0.win 0) t0_0 a (by revert a; decide) j))

theorem block1 : (iblk m c 1 t0_0 : S1024x64.Idx → EReal) = V m c main_v3 := by
  funext j
  show V m c main_v3 (((cfg0.win 1).rect t0_0).emb j) = V m c main_v3 j
  exact congrArg _ (funext fun a => Fin.ext (Pipeline.Window.rect_emb_val_of_index_zero (cfg0.win 1) t0_0 a (by revert a; decide) j))

theorem block2 : (iblk m c 2 t0_0 : S1024x64.Idx → EReal) = V m c main_v4 := by
  funext j
  show V m c main_v4 (((cfg0.win 2).rect t0_0).emb j) = V m c main_v4 j
  exact congrArg _ (funext fun a => Fin.ext (Pipeline.Window.rect_emb_val_of_index_zero (cfg0.win 2) t0_0 a (by revert a; decide) j))

/-! ## The sampled weights -/

/-- The kernel samples: the mean plus the scale times the noise. -/
theorem pay3_apply (q : Fin 1024) (p s : Fin 8) :
    k0_pay3 (F := Ideal) (iblk m c 0 t0_0) (iblk m c 1 t0_0) (iblk m c 2 t0_0) (ix2 q (col p s)) = Cert.Model.beta (muOf m c) (lsOf m c) (epsOf m c) q p s := by
  unfold k0_pay3
  rw [shapeCast_self, shapeCast_self, shapeCast_self, block0, block1, block2, V_v1, V_v3, V_v4]
  show shapeCast S1024x64 _ _ (ix2 q (col p s)) + Ideal.exp (shapeCast S1024x64 _ _ (ix2 q (col p s))) * shapeCast S1024x64 _ _ (ix2 q (col p s)) = _
  rw [flat_apply, flat_apply, flat_apply, spread3_apply, spread3_apply]
  rfl

/-- Its last 512 rows. -/
theorem pay4_apply (q : Fin 512) (p s : Fin 8) :
    k0_pay4 (F := Ideal) (iblk m c 0 t0_0) (iblk m c 1 t0_0) (iblk m c 2 t0_0) (ix2 q (col p s)) = Cert.Model.upper (muOf m c) (lsOf m c) (epsOf m c) q p s := by
  unfold k0_pay4
  exact (slice2_axis0_apply 512 _ _ q (col p s) ⟨512 + q.val, by omega⟩ rfl).trans (pay3_apply m c _ p s)

/-- Their squares. -/
theorem pay5_apply (q : Fin 512) (p s : Fin 8) :
    k0_pay5 (F := Ideal) (iblk m c 0 t0_0) (iblk m c 1 t0_0) (iblk m c 2 t0_0) (ix2 q (col p s))
      = Cert.Model.upper (muOf m c) (lsOf m c) (epsOf m c) q p s * Cert.Model.upper (muOf m c) (lsOf m c) (epsOf m c) q p s := by
  unfold k0_pay5
  exact congrArg₂ (· * ·) (pay4_apply m c q p s) (pay4_apply m c q p s)

theorem ofBits_512 : Ideal.ofBits .f32 0x44000000#32 = 512 := by
  simp [Ideal.ofBits, Ideal.ieee, -EReal.coe_mul]; norm_num; rfl

theorem ofBits_one : Ideal.ofBits .f32 0x3F800000#32 = 1 := by
  simp [Ideal.ofBits, Ideal.ieee, -EReal.coe_mul]; norm_num

/-- The sum down a column. -/
theorem lift_col (r : Fin 64) (k : Fin 512) : (reduces_S512x64_S64 : S512x64.Reduces [0] S64).lift (ix1 r) k = ix2 k r := by
  funext a; apply Fin.ext
  match a with
  | ⟨0, _⟩ => rfl
  | ⟨1, _⟩ => rfl

/-- The score half of the weights. -/
theorem weights_lower (q : Fin 512) (p s : Fin 8) (h : (col p s).val < 128) :
    weights m c (ix2 q ⟨(col p s).val, h⟩) = Cert.Model.lower (muOf m c) (lsOf m c) (epsOf m c) q p s := by
  unfold weights k0_pay6
  rw [shapeCast_self]
  refine (concatenate_pair_apply_left (t := S512x128) (s₁ := S512x64) (s₂ := S512x64) (1 : Fin 2) _ _ _ (ix2 q ⟨(col p s).val, h⟩) rfl (ix2 q (col p s)) (fun b => match b with | ⟨0, _⟩ => rfl | ⟨1, _⟩ => rfl)).trans ?_
  exact (slice2_axis0_apply 0 (k0_pay3 (F := Ideal) (iblk m c 0 t0_0) (iblk m c 1 t0_0) (iblk m c 2 t0_0)) _ q (col p s) ⟨q.val, by omega⟩ (Nat.zero_add _).symm).trans
    (pay3_apply m c ⟨q.val, by omega⟩ p s)

/-- The value half, divided by its root mean square. -/
theorem weights_upper (q : Fin 512) (p s : Fin 8) (h : 64 + (col p s).val < 128) :
    weights m c (ix2 q ⟨64 + (col p s).val, h⟩) = Cert.Model.eta (muOf m c) (lsOf m c) (epsOf m c) q p s := by
  unfold weights k0_pay6
  rw [shapeCast_self]
  refine (concatenate_pair_apply_right (t := S512x128) (s₁ := S512x64) (s₂ := S512x64) (1 : Fin 2) _ _ _ (ix2 q ⟨64 + (col p s).val, h⟩) rfl rfl (ix2 q (col p s))
    (fun b hb => match b with | ⟨0, _⟩ => rfl | ⟨1, _⟩ => absurd rfl hb) (Nat.add_comm _ _)).trans ?_
  refine congrArg₂ Ideal.div (pay4_apply m c q p s) ((broadcastTo_1b_ab_apply _ _ q (col p s)).trans ?_)
  refine congrArg Ideal.sqrt (congrArg₂ Ideal.div ((shapeCast_a_1a_apply _ _ 0 (col p s)).trans ?_) ofBits_512)
  refine (Ideal.multiReduction_add_single _ _ reduces_S512x64_S64 (.inl rfl) rfl (ix1 (col p s))).trans ?_
  exact Finset.sum_congr rfl fun k _ => (congrArg _ (lift_col (col p s) k)).trans (pay5_apply m c k p s)

/-- The norms. -/
theorem norms_apply (p s : Fin 8) : norms m c (ix2 (col p s) 0) = Cert.Model.size (muOf m c) (lsOf m c) (epsOf m c) p s := by
  unfold norms k0_pay7
  rw [shapeCast_self]
  refine congrArg Ideal.sqrt (congrArg₂ Ideal.div ?_ ofBits_512)
  simp only [matmul]
  rw [Ideal.matmul_constant_zero_apply]
  rw [← Equiv.sum_comp (contrEquiv1 dot_S512x64_S512x1_S64x1_0_0_1_1_n_n 512 rfl rfl).symm]
  refine Finset.sum_congr rfl fun q _ => ?_
  have hk := contrEquiv1_symm_val dot_S512x64_S512x1_S64x1_0_0_1_1_n_n 512 rfl rfl q
  have el : dot_S512x64_S512x1_S64x1_0_0_1_1_n_n.lhsIdx (ix2 (col p s) 0) ((contrEquiv1 dot_S512x64_S512x1_S64x1_0_0_1_1_n_n 512 rfl rfl).symm q) = ix2 q (col p s) := by
    funext a; apply Fin.ext
    match a with
    | ⟨0, _⟩ => exact hk
    | ⟨1, _⟩ => rfl
  rw [el, pay5_apply]
  refine Eq.trans (congrArg (_ * ·) ofBits_one) (mul_one _)

/-! ## A row's score and value -/

/-- `x` as launched. -/
theorem xs_eq : xs m c = m ((c : Thread nD τ).loc main_arg0) := V_main_arg0 m c

theorem scoreAt_eq (n : Fin 16) (p s : Fin 8) :
    scoreAt (xs m c) (weights m c) n (col p s) = Cert.Model.score (m ((c : Thread nD τ).loc main_arg0)) (muOf m c) (lsOf m c) (epsOf m c) n p s := by
  funext x
  unfold scoreAt prodAt Cert.Model.score
  refine Finset.sum_congr rfl fun q _ => ?_
  rw [xs_eq, weights_lower]
  exact mul_comm _ _

theorem valueAt_eq (n : Fin 16) (p s : Fin 8) :
    valueAt (xs m c) (weights m c) n (col p s) = Cert.Model.value (m ((c : Thread nD τ).loc main_arg0)) (muOf m c) (lsOf m c) (epsOf m c) n p s := by
  funext x
  unfold valueAt prodAt Cert.Model.value
  refine Finset.sum_congr rfl fun q _ => ?_
  rw [xs_eq, weights_upper]
  exact mul_comm _ _

theorem bagAt_eq (n : Fin 16) (p s : Fin 8) :
    bagAt (xs m c) (weights m c) n (col p s) = Cert.Model.mean (m ((c : Thread nD τ).loc main_arg0)) (muOf m c) (lsOf m c) (epsOf m c) n p s := by
  unfold bagAt Cert.Model.mean
  rw [scoreAt_eq, valueAt_eq]

end Cert.KernelIdeal.Bag
-- ==== Proof.Value.Final.lean ====
/- What the kernel's output array holds: the bag means, standardised over the sixteen bags and scaled by the norms. -/
module

public import proofs.«01_k».proof.Proof.Value.Weights
public import proofs.«01_k».proof.Proof.KernelIdeal.Launch
public import Idealize.ShloMosaic.Lib.Pipeline.ValueKit.Geometry

@[expose] public section

set_option maxRecDepth 16384

noncomputable section

namespace Cert.KernelIdeal.Bag

open Cert.KernelIdeal Cert.KernelIdeal.Gen
open Idealize.ShloMosaic Idealize.ShloMosaic.TcCoe Idealize.ShloMosaic.ValueIdx
open Cert.Softmax Cert.Model

theorem ofBits_16 : Ideal.ofBits .f32 0x41800000#32 = 16 := by
  simp [Ideal.ofBits, Ideal.ieee, -EReal.coe_mul]; norm_num; rfl

theorem ofBits_15 : Ideal.ofBits .f32 0x41700000#32 = 15 := by
  simp [Ideal.ofBits, Ideal.ieee, -EReal.coe_mul]; norm_num; rfl

/-- The sum over the sixteen lanes of a row. -/
theorem lift_lane (r : Fin 64) (k : Fin 16) : (reduces_S64x16_S64 : S64x16.Reduces [1] S64).lift (ix1 r) k = ix2 r k := by
  funext a; apply Fin.ext
  match a with
  | ⟨0, _⟩ => rfl
  | ⟨1, _⟩ => rfl

theorem laneSum_apply (v : FVec Ideal S64x16 .f32) (r : Fin 64) :
    shapeCast S64x1 (multiReduction .add [1] S64 v 0x00000000#32 reduces_S64x16_S64 (.inl rfl) rfl) shapeCasts_S64_S64x1 (ix2 r 0)
      = ∑ l : Fin 16, v (ix2 r l) := by
  refine (shapeCast_a_a1_apply _ _ r 0).trans ?_
  refine (Ideal.multiReduction_add_single v _ reduces_S64x16_S64 (.inl rfl) rfl (ix1 r)).trans ?_
  exact Finset.sum_congr rfl fun k _ => congrArg v (lift_lane r k)

/-- A row less its average. -/
theorem centred_apply (u : FVec Ideal S64x16 .f32) (r : Fin 64) (l : Fin 16) :
    subf u (broadcastTo S64x16 (divf (shapeCast S64x1 (multiReduction .add [1] S64 u 0x00000000#32 reduces_S64x16_S64 (.inl rfl) rfl) shapeCasts_S64_S64x1)
        (broadcast S64x1 (Scalar.ofBits .f32 0x41800000#32))) broadcasts_S64x1_S64x16) (ix2 r l)
      = u (ix2 r l) - avg fun l => u (ix2 r l) :=
  congrArg (u (ix2 r l) - ·) ((spread_apply _ _ (by decide) r l).trans (congrArg₂ Ideal.div (laneSum_apply u r) ofBits_16))

/-- The kernel's last step, at lane `n` of row `r`. -/
theorem pay2_apply (u : FVec Ideal S64x16 .f32) (b : FVec Ideal S64x1 .f32) (r : Fin 64) (n : Fin 16) :
    k0_pay2 (F := Ideal) u b (ix2 n r) = standard (fun l => u (ix2 r l)) (b (ix2 r 0)) n := by
  unfold k0_pay2
  refine (transpose_ix2_apply _ _ n r).trans ?_
  refine congrArg₂ Ideal.div (congrArg₂ (· * ·) (spread_apply b _ (by decide) r n) (centred_apply u r n)) ?_
  refine (spread_apply _ _ (by decide) r n).trans ?_
  refine congrArg Ideal.sqrt (congrArg₂ Ideal.div ((laneSum_apply _ r).trans ?_) ofBits_15)
  exact Finset.sum_congr rfl fun l _ => congrArg₂ (· * ·) (centred_apply u r l) (centred_apply u r l)

variable (m : (ℓ : Loc nD τ sig) → Buf (Elt Ideal) ℓ) (c : Dev nD)

/-- The bags as launched. -/
def xOf : Bags := m ((c : Thread nD τ).loc main_arg0)

/-- What the classifier puts out, as an array. -/
def outArr : S16x8x8.Idx → EReal := fun i => out (xOf m c) (muOf m c) (lsOf m c) (epsOf m c) (i 0) (i 1) (i 2)

/-- The pipeline's output array holds what the last grid point wrote. -/
theorem array_eq : ((dats m 0 c).arrAt 3 cfg0.N : S16x64.Idx → EReal) = k0_pay2 (means m c 8) (norms m c) := by
  refine (dats m 0 c).arrAt_eq_of_after_last 3 t0_7 (by decide +kernel) _ fun j => ?_
  rw [after3]
  rfl

/-- Lane `n` of column `8p + s` of it is the classifier's output for bag `n`, class `p`, sample `s`. -/
theorem array_apply (hs : ∀ n p s, Fin' (Model.score (xOf m c) (muOf m c) (lsOf m c) (epsOf m c) n p s)) (n : Fin 16) (p s : Fin 8) :
    k0_pay2 (F := Ideal) (means m c 8) (norms m c) (ix2 n (col p s)) = out (xOf m c) (muOf m c) (lsOf m c) (epsOf m c) n p s := by
  rw [pay2_apply, norms_apply]
  unfold out
  refine congrArg (fun u => standard u _ n) (funext fun l => ?_)
  rw [means_apply m c (col p s) l (fun n => by rw [scoreAt_eq]; exact hs n p s) 8 (le_refl 8), if_pos (by omega), bagAt_eq]
  rfl

/-- The kernel's result. -/
theorem result_eq (hs : ∀ n p s, Fin' (Model.score (xOf m c) (muOf m c) (lsOf m c) (epsOf m c) n p s)) :
    (Pipeline.afterTail₀ cfgs (dats m) 0 (V0 m) [hostOps1] c main_v6 : S16x8x8.Idx → EReal) = outArr m c := by
  have h : (Pipeline.afterTail₀ cfgs (dats m) 0 (V0 m) [hostOps1] c main_v6 : S16x8x8.Idx → EReal)
      = shapeCast S16x8x8 (k0_pay2 (F := Ideal) (means m c 8) (norms m c)) shapeCasts_S16x64_S16x8x8 := by
    rw [← array_eq]
    exact congrArg (fun x => shapeCast S16x8x8 x shapeCasts_S16x64_S16x8x8)
      (Pipeline.withArrays_arr spec0 (by decide) c (V0 m c) (fun w => (dats m 0 c).arrAt w cfg0.N) 3)
  rw [h]
  funext i
  obtain ⟨n, p, s, rfl⟩ : ∃ n p s, i = ix3 n p s := ⟨i 0, i 1, i 2, eq_ix3 i⟩
  refine (shapeCast_apply _ shapeCasts_S16x64_S16x8x8 (ix3 n p s) (ix2 n (col p s)) ?_).trans (array_apply m c hs n p s)
  rw [Shape.rowMajor_val_two, Shape.rowMajor_val_three]
  show n.val * 64 + (p.val * 8 + s.val) = (n.val * 8 + p.val) * 8 + s.val
  omega

end Cert.KernelIdeal.Bag
-- ==== Proof.Value.Reference.lean ====
/- What the reference computes, read at an index: the classifier's output in plain mathematics. -/
module

public import proofs.«01_k».proof.Proof.Value.Model
public import proofs.«01_k».proof.Proof.Gen.ReferenceIdeal.Read
public import Idealize.ShloMosaic.Lib.KernelVsHost
public import Idealize.ShloMosaic.Lib.Pipeline.Value

@[expose] public section

set_option maxRecDepth 16384

noncomputable section

namespace Cert.ReferenceIdeal.Bag

open Cert.ReferenceIdeal Cert.ReferenceIdeal.Gen Cert.ReferenceIdeal.Read
open Idealize.ShloMosaic Idealize.ShloMosaic.TcCoe Idealize.ShloMosaic.ValueIdx
open Cert.Softmax Cert.Model

variable (X : Bags) (mu ls : Par) (eps : Noise)

/-! ## The constants -/

theorem word_512 : Ideal.ofBits .f32 0x44000000#32 = 512 := by
  simp [Ideal.ofBits, Ideal.ieee, -EReal.coe_mul]; norm_num; rfl

theorem word_16 : Ideal.ofBits .f32 0x41800000#32 = 16 := by
  simp [Ideal.ofBits, Ideal.ieee, -EReal.coe_mul]; norm_num; rfl

theorem word_bot : Ideal.ofBits .f32 0xFF800000#32 = ⊥ := by simp [Ideal.ofBits, Ideal.ieee]

/-! ## The weights -/

/-- The sampled weights. -/
theorem v6_apply (q : Fin 1024) (p s : Fin 8) : val_main_v6 (F := Ideal) mu ls eps (ix3 q p s) = beta mu ls eps q p s := by
  have h5 : val_main_v5 (F := Ideal) mu (ix3 q p s) = mu (ix2 q p) := by
    rw [val_main_v5_apply, val_main_v0_apply]; exact congrArg mu (eq_ix2 _)
  have h3 : val_main_v3 (F := Ideal) ls (ix3 q p s) = Ideal.exp (ls (ix2 q p)) := by
    rw [val_main_v3_apply, val_main_v2_apply, val_main_v1_apply]
    exact congrArg (fun i => Ideal.exp (ls i)) (eq_ix2 _)
  exact congrArg₂ (· + ·) h5 (congrArg (· * eps (ix3 q p s)) h3)

theorem v7_apply (q : Fin 512) (p s : Fin 8) : val_main_v7 (F := Ideal) mu ls eps (ix3 q p s) = lower mu ls eps q p s := by
  rw [val_main_v7_apply]
  exact (congrArg _ (eq_ix3 _)).trans (v6_apply mu ls eps ⟨q.val, by omega⟩ p s)

theorem v8_apply (q : Fin 512) (p s : Fin 8) : val_main_v8 (F := Ideal) mu ls eps (ix3 q p s) = upper mu ls eps q p s := by
  rw [val_main_v8_apply]
  exact (congrArg _ (eq_ix3 _)).trans (v6_apply mu ls eps ⟨512 + q.val, by omega⟩ p s)

/-- Their root mean square. -/
theorem v14_apply (p s : Fin 8) : val_main_v14 (F := Ideal) mu ls eps (ix3 0 p s) = size mu ls eps p s := by
  rw [val_main_v14_apply, val_main_v13_apply, val_main_v11_apply, val_main_v10_apply, val_main_v12_apply]
  refine congrArg Ideal.sqrt (congrArg₂ Ideal.div ?_ word_512)
  refine (congrArg (· + _) Ideal.ofBits_zero_f32).trans ((zero_add _).trans ?_)
  refine Finset.sum_congr rfl fun q _ => ?_
  refine (congrArg _ (eq_ix3 _)).trans ?_
  exact congrArg₂ (· * ·) (v8_apply mu ls eps q p s) (v8_apply mu ls eps q p s)

theorem v16_apply (q : Fin 512) (p s : Fin 8) : val_main_v16 (F := Ideal) mu ls eps (ix3 q p s) = eta mu ls eps q p s := by
  rw [val_main_v16_apply, val_main_v15_apply]
  exact congrArg₂ Ideal.div (v8_apply mu ls eps q p s) ((congrArg _ (eq_ix3 _)).trans (v14_apply mu ls eps p s))

/-! ## A row's score and value -/

theorem v17_apply (n : Fin 16) (x : Fin 2048) (p s : Fin 8) :
    val_main_v17 (F := Ideal) X mu ls eps (ix4 n x p s) = score X mu ls eps n p s x := by
  rw [val_main_v17_apply]
  refine Finset.sum_congr rfl fun q _ => ?_
  exact congrArg₂ (· * ·) (congrArg X (eq_ix3 _)) ((congrArg _ (eq_ix3 _)).trans (v7_apply mu ls eps q p s))

theorem v29_apply (n : Fin 16) (x : Fin 2048) (p s : Fin 8) :
    val_main_v29 (F := Ideal) X mu ls eps (ix4 n x p s) = value X mu ls eps n p s x := by
  rw [val_main_v29_apply]
  refine Finset.sum_congr rfl fun q _ => ?_
  exact congrArg₂ (· * ·) (congrArg X (eq_ix3 _)) ((congrArg _ (eq_ix3 _)).trans (v16_apply mu ls eps q p s))

/-! ## The softmax over a bag's rows -/

theorem reduces_rows : S16x2048x8x8.Reduces [1] S16x8x8 := by decide

theorem lift_rows (n : Fin 16) (p s : Fin 8) (x : Fin 2048) : reduces_rows.lift (ix3 n p s) x = ix4 n x p s := by
  funext a; apply Fin.ext
  match a with
  | ⟨0, _⟩ => rfl
  | ⟨1, _⟩ => rfl
  | ⟨2, _⟩ => rfl
  | ⟨3, _⟩ => rfl

/-- A bag's greatest score. -/
theorem v18_apply (n : Fin 16) (p s : Fin 8) :
    val_main_v18 (F := Ideal) X mu ls eps (ix3 n p s) = top (score X mu ls eps n p s) Finset.univ := by
  unfold val_main_v18 val_main_cst_1
  generalize hv : val_main_v17 (F := Ideal) X mu ls eps = v
  have h : Host.reduce FloatOps.maximumf v (constant (F := Ideal) S_ .f32 0xFF800000#32) reducesTo_S16x2048x8x8_S16x8x8_d1 h_S_
      = multiReduction .maximumf [1] S16x8x8 v 0xFF800000#32 reduces_rows (.inl rfl) rfl :=
    hostReduce_maximumf_eq_multiReduction (F := Ideal) (s := S16x2048x8x8) (t := S16x8x8) (u := S_) (φ := .f32) (axes := [1]) v 0xFF800000#32 reducesTo_S16x2048x8x8_S16x8x8_d1 h_S_ reduces_rows (.inl rfl) rfl
  rw [h]
  subst hv
  refine (Ideal.multiReduction_maximumf_single _ _ reduces_rows (.inl rfl) rfl (ix3 n p s)).trans ?_
  refine Eq.trans (congrArg (fun b => Finset.fold max b _ _) word_bot) ?_
  exact congrArg (fun f => Finset.univ.sup f) (funext fun x => (congrArg _ (lift_rows n p s x)).trans (v17_apply X mu ls eps n x p s))

theorem v20_apply (n : Fin 16) (p s : Fin 8) :
    val_main_v20 (F := Ideal) X mu ls eps (ix3 n p s) = top (score X mu ls eps n p s) Finset.univ := by
  rw [val_main_v20_apply, v18_apply, val_main_v19_apply]
  exact (congrArg (max · _) word_bot).trans (max_eq_right bot_le)

/-- The exponentials … -/
theorem v24_apply (n : Fin 16) (x : Fin 2048) (p s : Fin 8) :
    val_main_v24 (F := Ideal) X mu ls eps (ix4 n x p s) = Ideal.exp (score X mu ls eps n p s x - top (score X mu ls eps n p s) Finset.univ) := by
  rw [val_main_v24_apply, val_main_v23_apply, v17_apply, val_main_v22_apply, val_main_v21_apply]
  exact congrArg (fun b => Ideal.exp (_ - b)) ((congrArg _ (eq_ix3 _)).trans (v20_apply X mu ls eps n p s))

/-- … and their sum. -/
theorem v25_apply (n : Fin 16) (p s : Fin 8) : val_main_v25 (F := Ideal) X mu ls eps (ix3 n p s) = den (score X mu ls eps n p s) Finset.univ := by
  rw [val_main_v25_apply]
  refine (congrArg (· + _) Ideal.ofBits_zero_f32).trans ((zero_add _).trans ?_)
  exact Finset.sum_congr rfl fun x _ => (congrArg _ (eq_ix4 _)).trans (v24_apply X mu ls eps n x p s)

/-- A row's share of the attention. -/
theorem v28_apply (n : Fin 16) (x : Fin 2048) (p s : Fin 8) :
    val_main_v28 (F := Ideal) X mu ls eps (ix4 n x p s)
      = Ideal.div (Ideal.exp (score X mu ls eps n p s x - top (score X mu ls eps n p s) Finset.univ)) (den (score X mu ls eps n p s) Finset.univ) := by
  rw [val_main_v28_apply, val_main_v27_apply, val_main_v26_apply]
  exact congrArg₂ Ideal.div (v24_apply X mu ls eps n x p s) ((congrArg _ (eq_ix3 _)).trans (v25_apply X mu ls eps n p s))

/-- The bag's mean: the reference divides each exponential by their sum, the model the weighted sum by it; for finite
    scores that is one number. -/
theorem v30_apply (n : Fin 16) (p s : Fin 8) (hs : Fin' (score X mu ls eps n p s)) :
    val_main_v30 (F := Ideal) X mu ls eps (ix3 n p s) = mean X mu ls eps n p s := by
  rw [val_main_v30_apply]
  unfold mean
  rw [div_num hs _ Finset.univ_nonempty]
  refine Finset.sum_congr rfl fun x _ => ?_
  exact congrArg₂ (· * ·) ((congrArg _ (eq_ix4 _)).trans (v28_apply X mu ls eps n x p s)) ((congrArg _ (eq_ix4 _)).trans (v29_apply X mu ls eps n x p s))

/-! ## The standardisation over the bags -/

variable (hs : ∀ n p s, Fin' (score X mu ls eps n p s))
include hs

theorem v33_apply (p s : Fin 8) : val_main_v33 (F := Ideal) X mu ls eps (ix2 p s) = avg fun l => mean X mu ls eps l p s := by
  rw [val_main_v33_apply, val_main_v31_apply, val_main_v32_apply]
  refine congrArg₂ Ideal.div ((congrArg (· + _) Ideal.ofBits_zero_f32).trans ((zero_add _).trans ?_)) word_16
  exact Finset.sum_congr rfl fun l _ => (congrArg _ (eq_ix3 _)).trans (v30_apply X mu ls eps l p s (hs l p s))

/-- A bag's mean less the average, as the variance takes it. -/
theorem dev_apply (n : Fin 16) (p s : Fin 8) :
    val_main_call0_call0_v5 (F := Ideal) X mu ls eps (ix3 n p s) = mean X mu ls eps n p s - avg fun l => mean X mu ls eps l p s := by
  rw [val_main_call0_call0_v5_apply, v30_apply X mu ls eps n p s (hs n p s), val_main_call0_call0_v4_apply, val_main_call0_call0_v3_apply,
    val_main_call0_call0_v1_apply, val_main_call0_call0_v0_apply, val_main_call0_call0_v2_apply]
  refine congrArg (_ - ·) (congrArg₂ Ideal.div ((congrArg (· + _) Ideal.ofBits_zero_f32).trans ((zero_add _).trans ?_)) word_16)
  exact Finset.sum_congr rfl fun l _ => (congrArg _ (eq_ix3 _)).trans (v30_apply X mu ls eps l p s (hs l p s))

omit hs in
/-- Sixteen bags less the one degree of freedom. -/
theorem fifteen (i : S_.Idx) : val_main_call0_call0_v8 (F := Ideal) i = 15 := by
  rw [val_main_call0_call0_v8_apply, val_main_call0_call0_v7_apply, val_main_c_apply]
  refine (congrArg (· - _) word_16).trans ?_
  show (16 : EReal) - (((1#32).toInt : ℝ) : EReal) = 15
  have h16 : (16 : EReal) = ((16 : ℝ) : EReal) := rfl
  have h15 : (15 : EReal) = ((15 : ℝ) : EReal) := rfl
  rw [h16, h15, ← EReal.coe_sub]
  norm_num

/-- The sample variance: the degrees of freedom are positive, so the division is taken. -/
theorem var_apply (p s : Fin 8) : val_main_call0_v0 (F := Ideal) X mu ls eps (ix2 p s)
    = Ideal.div (∑ l, (mean X mu ls eps l p s - avg fun l => mean X mu ls eps l p s) * (mean X mu ls eps l p s - avg fun l => mean X mu ls eps l p s)) 15 := by
  have hc : broadcastInDim S8x8 ![] bcast_S_S8x8 (val_main_call0_call0_v12 (F := Ideal)) (ix2 p s) = 1#1 := by
    refine (broadcastInDim_apply _ bcast_S_S8x8 _ (ix2 p s) (fun a => a.elim0) (fun a => a.elim0)).trans ?_
    rw [val_main_call0_call0_v12_apply, fifteen]
    show BitVec.ofBool (decide (Ideal.ofBits .f32 0x00000000#32 < 15)) = 1#1
    rw [Ideal.ofBits_zero_f32, decide_eq_true (show (0 : EReal) < 15 by norm_num)]
    rfl
  unfold val_main_call0_v0
  show Scalar.select (broadcastInDim S8x8 ![] bcast_S_S8x8 (val_main_call0_call0_v12 (F := Ideal)) (ix2 p s)) (val_main_call0_call0_v11 (F := Ideal) X mu ls eps (ix2 p s)) _ = _
  rw [hc]
  refine (select_one _ _).trans ?_
  rw [val_main_call0_call0_v11_apply, val_main_call0_call0_v10_apply, fifteen, val_main_call0_call0_v9_apply]
  refine congrArg (Ideal.div · 15) ((congrArg (· + _) Ideal.ofBits_zero_f32).trans ((zero_add _).trans ?_))
  refine Finset.sum_congr rfl fun l _ => (congrArg _ (eq_ix3 _)).trans ?_
  exact congrArg₂ (· * ·) (dev_apply X mu ls eps hs l p s) (dev_apply X mu ls eps hs l p s)

/-- THE REFERENCE'S RESULT. -/
theorem v42_apply (n : Fin 16) (p s : Fin 8) : val_main_v42 (F := Ideal) X mu ls eps (ix3 n p s) = out X mu ls eps n p s := by
  rw [val_main_v42_apply, val_main_v39_apply, val_main_v38_apply, val_main_v37_apply, v30_apply X mu ls eps n p s (hs n p s), val_main_v36_apply,
    val_main_v35_apply, val_main_v41_apply, val_main_v40_apply, val_main_v34_apply]
  refine congrArg₂ Ideal.div (congrArg₂ (· * ·) ((congrArg _ (eq_ix3 _)).trans (v14_apply mu ls eps p s))
    (congrArg (_ - ·) ((congrArg _ (eq_ix2 _)).trans (v33_apply X mu ls eps hs p s)))) ?_
  exact congrArg Ideal.sqrt ((congrArg _ (eq_ix2 _)).trans (var_apply X mu ls eps hs p s))

end Cert.ReferenceIdeal.Bag
-- ==== Proof.Value.Finite.lean ====
/- What the precondition says of the arguments, and that it makes every attention score finite. -/
module

public import proofs.«01_k».proof.Pre_finite_args
public import proofs.«01_k».proof.Proof.Value.Model
public import Idealize.ShloMosaic.PureOps.Ideal.Laws
public import Idealize.ShloMosaic.Lib.Pipeline.Value

@[expose] public section

noncomputable section

namespace Cert.Model

open Idealize.ShloMosaic Idealize.ShloMosaic.ValueIdx Cert.Softmax

/-! ## Finite sums and products -/

theorem real_add {a b : EReal} (ha : ∃ r : ℝ, a = r) (hb : ∃ r : ℝ, b = r) : ∃ r : ℝ, a + b = r := by
  obtain ⟨x, rfl⟩ := ha; obtain ⟨y, rfl⟩ := hb; exact ⟨x + y, rfl⟩

theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩

theorem real_sum {ι : Type} [DecidableEq ι] (S : Finset ι) (f : ι → EReal) (h : Fin' f) : ∃ r : ℝ, ∑ i ∈ S, f i = r := by
  choose g hg using h
  exact ⟨∑ i ∈ S, g i, by rw [coe_sum]; exact Finset.sum_congr rfl fun i _ => hg i⟩

/-- The exponential of a number below +∞ is finite. -/
theorem real_exp {a : EReal} (h : a < ⊤) : ∃ r : ℝ, Ideal.exp a = r := by
  induction a with
  | bot => exact ⟨0, rfl⟩
  | coe x => exact ⟨Real.exp x, rfl⟩
  | top => exact absurd h (lt_irrefl _)

/-- A number whose absolute value is below +∞ is finite. -/
theorem real_of_abs {a : EReal} (h : max a (-a) < ⊤) : ∃ r : ℝ, a = r := by
  induction a with
  | bot => exact absurd h (by simp)
  | coe x => exact ⟨x, rfl⟩
  | top => exact absurd h (by simp)

/-! ## The scores -/

/-- Finite bags, means and noise, and log scales below +∞, make finite scores. -/
theorem score_real {X : Bags} {mu ls : Par} {eps : Noise} (hX : Fin' X) (hmu : Fin' mu) (hls : ∀ i, ls i < ⊤) (heps : Fin' eps)
    (n : Fin 16) (p s : Fin 8) : Fin' (score X mu ls eps n p s) := fun x =>
  real_sum _ _ fun q => real_mul (hX _) (real_add (hmu _) (real_mul (real_exp (hls _)) (heps _)))

/-! ## The precondition -/

theorem word_top : Ideal.ofBits .f32 0x7F800000#32 = ⊤ := by simp [Ideal.ofBits, Ideal.ieee]

/-- A comparison below +∞ that reads one. -/
theorem lt_top_of_cmp {s : Shape} (v : FVec Ideal s .f32) (h : (⟨0, ![]⟩ : Shape).BroadcastsInDim s (![] : Fin 0 → Fin s.rank))
    (e : cmpf .olt v (broadcastInDim s ![] h (constant (F := Ideal) ⟨0, ![]⟩ .f32 0x7F800000#32)) = fun _ => 1#1) (i : s.Idx) : v i < (⊤ : EReal) := by
  have hi : BitVec.ofBool (decide ((v i : EReal) < broadcastInDim s ![] h (constant (F := Ideal) ⟨0, ![]⟩ .f32 0x7F800000#32) i)) = 1#1 := congrFun e i
  have hb : broadcastInDim s ![] h (constant (F := Ideal) ⟨0, ![]⟩ .f32 0x7F800000#32) i = (⊤ : EReal) := word_top
  rw [hb] at hi
  by_contra hn
  rw [decide_eq_false hn] at hi
  exact absurd hi (by decide)

/-- The shape relations the precondition's operations take. -/
instance pre_facts : Cert.Pre_finite_args.Facts where
  bcast_S_S16x2048x512 := by decide
  bcast_S_S1024x8 := by decide
  bcast_S_S1024x8x8 := by decide

/-- THE PRECONDITION MAKES EVERY SCORE FINITE. -/
theorem score_real_of_pre (X : Bags) (mu ls : Par) (eps : Noise)
    (h : (Cert.Pre_finite_args.fn (F := Ideal) X mu ls eps).1 = (fun _ => 1#1)
      ∧ (Cert.Pre_finite_args.fn (F := Ideal) X mu ls eps).2.1 = (fun _ => 1#1)
      ∧ (Cert.Pre_finite_args.fn (F := Ideal) X mu ls eps).2.2.1 = (fun _ => 1#1)
      ∧ (Cert.Pre_finite_args.fn (F := Ideal) X mu ls eps).2.2.2 = (fun _ => 1#1))
    (n : Fin 16) (p s : Fin 8) : Fin' (score X mu ls eps n p s) :=
  score_real (fun i => real_of_abs (lt_top_of_cmp (Host.absf (F := Ideal) (φ := .f32) X) pre_facts.bcast_S_S16x2048x512 h.1 i))
    (fun i => real_of_abs (lt_top_of_cmp (Host.absf (F := Ideal) (φ := .f32) mu) pre_facts.bcast_S_S1024x8 h.2.1 i))
    (fun i => lt_top_of_cmp (s := ⟨2, ![1024, 8]⟩) ls pre_facts.bcast_S_S1024x8 h.2.2.1 i)
    (fun i => real_of_abs (lt_top_of_cmp (Host.absf (F := Ideal) (φ := .f32) eps) pre_facts.bcast_S_S1024x8x8 h.2.2.2 i)) n p s

end Cert.Model
-- ==== Proof.Value.Equation.lean ====
/- The equation: from the same finite arguments the kernel and the reference end with the same result. -/
module

public import proofs.«01_k».proof.Defs
public import proofs.«01_k».proof.Proof.Value.Final
public import proofs.«01_k».proof.Proof.Value.Reference
public import proofs.«01_k».proof.Proof.Value.Finite
public import proofs.«01_k».proof.Proof.Gen.ReferenceIdeal.Run

@[expose] public section

noncomputable section

namespace Cert.Equation

open Idealize.ShloMosaic Idealize.ShloMosaic.TcCoe Idealize.ShloMosaic.ValueIdx Idealize.SL.Sem
open Cert.Softmax Cert.KernelIdeal.Bag

/-- The kernel's memory and the reference's. -/
abbrev MemK : Type := (ℓ : Loc Cert.KernelIdeal.nD Cert.KernelIdeal.τ Cert.KernelIdeal.sig) → Buf (Elt Ideal) ℓ
abbrev MemR : Type := (ℓ : Loc Cert.ReferenceIdeal.nD Cert.ReferenceIdeal.τ Cert.ReferenceIdeal.sig) → Buf (Elt Ideal) ℓ

/-- Every run of the kernel ends with the classifier's output. -/
theorem kernel (m : MemK) (ρ : Dev Cert.KernelIdeal.nD → PrngReg)
    (hs : ∀ c n p s, Fin' (Cert.Model.score (xOf m c) (muOf m c) (lsOf m c) (epsOf m c) n p s)) :
    θ_run (Cert.KernelIdeal.defs (F := Ideal)) (onTc (τ := Cert.KernelIdeal.τ) (Cert.KernelIdeal.main (F := Ideal))) ⟨m, fun _ => 0, ρ⟩ (fun r =>
      ∀ c : Dev Cert.KernelIdeal.nD, r.2.mem ((c.tc : Thread Cert.KernelIdeal.nD Cert.KernelIdeal.τ).loc Cert.KernelIdeal.main_v6) = outArr m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run _ _ _).mono (fun _ h c =>
    ⟨((h.1 c).2 Cert.KernelIdeal.main_v6 (Pipeline.mem_restRefs_of Cert.KernelIdeal.main_v6 (by decide) (by decide))).trans (result_eq m c (hs c)),
     ((h.1 c).2 Cert.KernelIdeal.main_arg0 (Pipeline.mem_restRefs_of Cert.KernelIdeal.main_arg0 (by decide) (by decide))).trans (W_arg0 m c),
     ((h.1 c).2 Cert.KernelIdeal.main_arg1 (Pipeline.mem_restRefs_of Cert.KernelIdeal.main_arg1 (by decide) (by decide))).trans (W_arg1 m c),
     ((h.1 c).2 Cert.KernelIdeal.main_arg2 (Pipeline.mem_restRefs_of Cert.KernelIdeal.main_arg2 (by decide) (by decide))).trans (W_arg2 m c),
     ((h.1 c).2 Cert.KernelIdeal.main_arg3 (Pipeline.mem_restRefs_of Cert.KernelIdeal.main_arg3 (by decide) (by decide))).trans (W_arg3 m c)⟩) (run_main m ρ)

/-- The reference's result on the kernel's arguments is the classifier's output. -/
theorem reference (m : MemK) (m' : MemR) (c : Dev Cert.KernelIdeal.nD)
    (h0 : m' ((c.tc : Thread Cert.ReferenceIdeal.nD Cert.ReferenceIdeal.τ).loc Cert.ReferenceIdeal.main_arg0) = xOf m c)
    (h1 : m' ((c.tc : Thread Cert.ReferenceIdeal.nD Cert.ReferenceIdeal.τ).loc Cert.ReferenceIdeal.main_arg1) = muOf m c)
    (h2 : m' ((c.tc : Thread Cert.ReferenceIdeal.nD Cert.ReferenceIdeal.τ).loc Cert.ReferenceIdeal.main_arg2) = lsOf m c)
    (h3 : m' ((c.tc : Thread Cert.ReferenceIdeal.nD Cert.ReferenceIdeal.τ).loc Cert.ReferenceIdeal.main_arg3) = epsOf m c)
    (hs : ∀ n p s, Fin' (Cert.Model.score (xOf m c) (muOf m c) (lsOf m c) (epsOf m c) n p s)) :
    Cert.ReferenceIdeal.Value.res_main_v42 (F := Ideal) m' c = outArr m c := by
  rw [Cert.ReferenceIdeal.Read.val_main_v42_eq, h0, h1, h2, h3]
  funext i
  obtain ⟨n, p, s, rfl⟩ : ∃ n p s, i = ix3 n p s := ⟨i 0, i 1, i 2, eq_ix3 i⟩
  exact Cert.ReferenceIdeal.Bag.v42_apply (xOf m c) (muOf m c) (lsOf m c) (epsOf m c) hs n p s

/-- THE VALUE CLAIM. -/
theorem algebraic : Cert.algebraic_KernelIdeal_ReferenceIdeal_pre_finite_args (hKernelIdeal := Cert.KernelIdeal.Gen.facts)
    (hReferenceIdeal := Cert.ReferenceIdeal.Gen.facts) (hPre_finite_args := Cert.Model.pre_facts) := by
  intro m g m' g' hpre hargs
  have hs : ∀ c n p s, Fin' (Cert.Model.score (xOf m c) (muOf m c) (lsOf m c) (epsOf m c) n p s) := fun c =>
    Cert.Model.score_real_of_pre (xOf m c) (muOf m c) (lsOf m c) (epsOf m c) (hpre c)
  refine ⟨fun c => outArr m c, kernel m g hs, ?_⟩
  refine (θ_run _ _ _).mono (fun _ h c => ⟨(h c).1.trans ?_, (h c).2⟩) (Cert.ReferenceIdeal.Value.run (F := Ideal) m' g')
  exact reference m m' c (hargs c).1 (hargs c).2.1 (hargs c).2.2.1 (hargs c).2.2.2 (hs c)

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- The kernel runs, its arguments end unchanged and every semaphore at zero. -/
theorem frame_kernel : Cert.quiescent_Kernel (hKernel := Cert.Kernel.Gen.facts) :=
  letI := Cert.Kernel.Gen.facts
  fun m ρ _ => Cert.Kernel.Bag.frame m ρ

/-- So does the kernel over the exact reals. -/
theorem frame_ideal : Cert.quiescent_KernelIdeal (hKernelIdeal := Cert.KernelIdeal.Gen.facts) :=
  fun m ρ _ => Cert.KernelIdeal.Bag.frame (F := Ideal) m ρ

/-- So does the reference, which declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- Under the precondition too. -/
theorem frame_ideal_pre : Cert.quiescent_KernelIdeal_pre_finite_args (hKernelIdeal := Cert.KernelIdeal.Gen.facts) (hPre_finite_args := Cert.Model.pre_facts) :=
  fun m ρ _ => frame_ideal m ρ trivial

theorem frame_reference_pre : Cert.quiescent_ReferenceIdeal_pre_finite_args (hReferenceIdeal := Cert.ReferenceIdeal.Gen.facts) (hPre_finite_args := Cert.Model.pre_facts) :=
  fun m ρ _ => frame_reference m ρ trivial

/-- EVERYTHING CLAIMED: the frames, the idealized kernel's text being the kernel's own, and the equation with the reference. -/
theorem claim : Cert.Claim :=
  ⟨Cert.Kernel.Gen.facts, Cert.KernelIdeal.Gen.facts, Cert.ReferenceIdeal.Gen.facts, Cert.Model.pre_facts,
    frame_kernel, frame_ideal, frame_ideal_pre, frame_reference, frame_reference_pre, trivial, Cert.Equation.algebraic⟩

end Cert.Proof

end
